-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x64 : Shape := ⟨3, ![4, 2048, 64]⟩
abbrev S4x2048x2048 : Shape := ⟨3, ![4, 2048, 2048]⟩
abbrev S32x2048 : Shape := ⟨2, ![32, 2048]⟩
abbrev S32 : Shape := ⟨1, ![32]⟩
abbrev S64x32 : Shape := ⟨2, ![64, 32]⟩
abbrev S64 : Shape := ⟨1, ![64]⟩
abbrev S64x64 : Shape := ⟨2, ![64, 64]⟩
abbrev S4x64x2048 : Shape := ⟨3, ![4, 64, 2048]⟩
abbrev S1x32 : Shape := ⟨2, ![1, 32]⟩
abbrev S32x64 : Shape := ⟨2, ![32, 64]⟩
abbrev S1x64 : Shape := ⟨2, ![1, 64]⟩
abbrev S12x256x2048 : Shape := ⟨3, ![12, 256, 2048]⟩
abbrev S12x2 : Shape := ⟨2, ![12, 2]⟩
abbrev S_ : Shape := ⟨0, ![]⟩
abbrev S4 : Shape := ⟨1, ![4]⟩
abbrev S1x1 : Shape := ⟨2, ![1, 1]⟩
abbrev S1x256x1024 : Shape := ⟨3, ![1, 256, 1024]⟩
abbrev S256x1024 : Shape := ⟨2, ![256, 1024]⟩
abbrev S1x256x2048 : Shape := ⟨3, ![1, 256, 2048]⟩
abbrev S256x2048 : Shape := ⟨2, ![256, 2048]⟩
abbrev S32x8x2048 : Shape := ⟨3, ![32, 8, 2048]⟩
abbrev S8x2048 : Shape := ⟨2, ![8, 2048]⟩
abbrev S2048 : Shape := ⟨1, ![2048]⟩
abbrev S1x2048 : Shape := ⟨2, ![1, 2048]⟩
abbrev S1 : Shape := ⟨1, ![1]⟩
abbrev S64x1 : Shape := ⟨2, ![64, 1]⟩
abbrev S1x64x2048 : Shape := ⟨3, ![1, 64, 2048]⟩
abbrev S64x2048 : Shape := ⟨2, ![64, 2048]⟩

abbrev nBuf : Space → Nat
  | .hbm => 21
  | .vmem => 12
  | .smem => 0
  | _ => 0

abbrev bufTy : (tb : Table) → Fin (tcTables nBuf tb) → BufTy
  | .hbm, ⟨0, _⟩ => ⟨S4x2048x64, .f32⟩
  | .hbm, ⟨1, _⟩ => ⟨S4x2048x2048, .f32⟩
  | .hbm, ⟨2, _⟩ => ⟨S32x2048, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S64x32, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S4x64x2048, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S32x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S4x64x2048, .f32⟩
  | .hbm, ⟨20, _⟩ => ⟨S4x2048x64, .f32⟩
  | .local _ .vmem, ⟨0, _⟩ => ⟨S64x64, .f32⟩
  | .local _ .vmem, ⟨1, _⟩ => ⟨S32x2048, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S32x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S12x256x2048, .f32⟩
  | .local _ .vmem, ⟨10, _⟩ => ⟨S4x64x2048, .f32⟩
  | .local _ .vmem, ⟨11, _⟩ => ⟨S4x64x2048, .f32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S4x2048x64 : Shape := ⟨3, ![4, 2048, 64]⟩
abbrev S4x2048x2048 : Shape := ⟨3, ![4, 2048, 2048]⟩
abbrev S32x2048 : Shape := ⟨2, ![32, 2048]⟩
abbrev S32 : Shape := ⟨1, ![32]⟩
abbrev S64x32 : Shape := ⟨2, ![64, 32]⟩
abbrev S64 : Shape := ⟨1, ![64]⟩
abbrev S64x64 : Shape := ⟨2, ![64, 64]⟩
abbrev S_ : Shape := ⟨0, ![]⟩
abbrev S4x2048 : Shape := ⟨2, ![4, 2048]⟩
abbrev S2048x32 : Shape := ⟨2, ![2048, 32]⟩
abbrev S4x32 : Shape := ⟨2, ![4, 32]⟩
abbrev S1x32 : Shape := ⟨2, ![1, 32]⟩
abbrev S4 : Shape := ⟨1, ![4]⟩
abbrev S4x1 : Shape := ⟨2, ![4, 1]⟩
abbrev S32x64 : Shape := ⟨2, ![32, 64]⟩
abbrev S4x64 : Shape := ⟨2, ![4, 64]⟩
abbrev S1x64 : Shape := ⟨2, ![1, 64]⟩
abbrev S4x8 : Shape := ⟨2, ![4, 8]⟩
abbrev S4x8x1 : Shape := ⟨3, ![4, 8, 1]⟩
abbrev S4x8x2 : Shape := ⟨3, ![4, 8, 2]⟩
abbrev S4x1x64 : Shape := ⟨3, ![4, 1, 64]⟩
abbrev S1x1x64 : Shape := ⟨3, ![1, 1, 64]⟩
abbrev S8192x64 : Shape := ⟨2, ![8192, 64]⟩

abbrev nBuf : Space → Nat
  | .hbm => 119
  | .vmem => 0
  | .smem => 0
  | _ => 0

abbrev bufTy : (tb : Table) → Fin (tcTables nBuf tb) → BufTy
  | .hbm, ⟨0, _⟩ => ⟨S4x2048x64, .f32⟩
  | .hbm, ⟨1, _⟩ => ⟨S4x2048x2048, .f32⟩
  | .hbm, ⟨2, _⟩ => ⟨S32x2048, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S64x32, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S2048x32, .f32⟩
  | .hbm, ⟨17, _⟩ => ⟨S4x32, .f32⟩
  | .hbm, ⟨18, _⟩ => ⟨S1x32, .f32⟩
  | .hbm, ⟨19, _⟩ => ⟨S4x32, .f32⟩
  | .hbm, ⟨20, _⟩ => ⟨S4x32, .f32⟩
  | .hbm, ⟨21, _⟩ => ⟨S_, .f32⟩
  | .hbm, ⟨22, _⟩ => ⟨S4, .f32⟩
  | .hbm, ⟨23, _⟩ => ⟨S4x1, .f32⟩
  | .hbm, ⟨24, _⟩ => ⟨S_, .f32⟩
  | .hbm, ⟨25, _⟩ => ⟨S4x1, .f32⟩
  | .hbm, ⟨26, _⟩ => ⟨S4x1, .f32⟩
  | .hbm, ⟨27, _⟩ => ⟨S_, .i32⟩
  | .hbm, ⟨28, _⟩ => ⟨S_, .f32⟩
  | .hbm, ⟨29, _⟩ => ⟨S4, .f32⟩
  | .hbm, ⟨30, _⟩ => ⟨S4x1, .f32⟩
  | .hbm, ⟨31, _⟩ => ⟨S_, .f32⟩
  | .hbm, ⟨32, _⟩ => ⟨S4x1, .f32⟩
  | .hbm, ⟨33, _⟩ => ⟨S4x1, .f32⟩
  | .hbm, ⟨34, _⟩ => ⟨S4x32, .f32⟩
  | .hbm, ⟨35, _⟩ => ⟨S4x32, .f32⟩
  | .hbm, ⟨36, _⟩ => ⟨S4x32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4, .f32⟩
  | .hbm, ⟨42, _⟩ => ⟨S4x1, .f32⟩
  | .hbm, ⟨43, _⟩ => ⟨S4x1, .f32⟩
  | .hbm, ⟨44, _⟩ => ⟨S4x1, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S4x1, .f32⟩
  | .hbm, ⟨50, _⟩ => ⟨S4x1, .f32⟩
  | .hbm, ⟨51, _⟩ => ⟨S4x32, .f32⟩
  | .hbm, ⟨52, _⟩ => ⟨S4x32, .f32⟩
  | .hbm, ⟨53, _⟩ => ⟨S_, .f32⟩
  | .hbm, ⟨54, _⟩ => ⟨S4x1, .f32⟩
  | .hbm, ⟨55, _⟩ => ⟨S4x1, .f32⟩
  | .hbm, ⟨56, _⟩ => ⟨S4x1, .f32⟩
  | .hbm, ⟨57, _⟩ => ⟨S4x32, .f32⟩
  | .hbm, ⟨58, _⟩ => ⟨S4x32, .f32⟩
  | .hbm, ⟨59, _⟩ => ⟨S1x32, .f32⟩
  | .hbm, ⟨60, _⟩ => ⟨S4x32, .f32⟩
  | .hbm, ⟨61, _⟩ => ⟨S4x32, .f32⟩
  | .hbm, ⟨62, _⟩ => ⟨S1x32, .f32⟩
  | .hbm, ⟨63, _⟩ => ⟨S4x32, .f32⟩
  | .hbm, ⟨64, _⟩ => ⟨S4x32, .f32⟩
  | .hbm, ⟨65, _⟩ => ⟨S_, .f32⟩
  | .hbm, ⟨66, _⟩ => ⟨S4x32, .f32⟩
  | .hbm, ⟨67, _⟩ => ⟨S4x32, .f32⟩
  | .hbm, ⟨68, _⟩ => ⟨S4x32, .f32⟩
  | .hbm, ⟨69, _⟩ => ⟨S_, .f32⟩
  | .hbm, ⟨70, _⟩ => ⟨S4x32, .f32⟩
  | .hbm, ⟨71, _⟩ => ⟨S4x32, .f32⟩
  | .hbm, ⟨72, _⟩ => ⟨S4x32, .f32⟩
  | .hbm, ⟨73, _⟩ => ⟨S4x32, .f32⟩
  | .hbm, ⟨74, _⟩ => ⟨S32x64, .f32⟩
  | .hbm, ⟨75, _⟩ => ⟨S4x64, .f32⟩
  | .hbm, ⟨76, _⟩ => ⟨S1x64, .f32⟩
  | .hbm, ⟨77, _⟩ => ⟨S4x64, .f32⟩
  | .hbm, ⟨78, _⟩ => ⟨S4x64, .f32⟩
  | .hbm, ⟨79, _⟩ => ⟨S1x64, .f32⟩
  | .hbm, ⟨80, _⟩ => ⟨S4x64, .f32⟩
  | .hbm, ⟨81, _⟩ => ⟨S4x64, .f32⟩
  | .hbm, ⟨82, _⟩ => ⟨S4x8, .f32⟩
  | .hbm, ⟨83, _⟩ => ⟨S4x8, .i32⟩
  | .hbm, ⟨84, _⟩ => ⟨S_, .f32⟩
  | .hbm, ⟨85, _⟩ => ⟨S4x64, .f32⟩
  | .hbm, ⟨86, _⟩ => ⟨S4, .i32⟩
  | .hbm, ⟨87, _⟩ => ⟨S4x1, .i32⟩
  | .hbm, ⟨88, _⟩ => ⟨S_, .i32⟩
  | .hbm, ⟨89, _⟩ => ⟨S4x1, .i32⟩
  | .hbm, ⟨90, _⟩ => ⟨S4x1, .i1⟩
  | .hbm, ⟨91, _⟩ => ⟨S_, .i32⟩
  | .hbm, ⟨92, _⟩ => ⟨S4x1, .i32⟩
  | .hbm, ⟨93, _⟩ => ⟨S4x1, .i32⟩
  | .hbm, ⟨94, _⟩ => ⟨S4x1, .i32⟩
  | .hbm, ⟨95, _⟩ => ⟨S_, .i32⟩
  | .hbm, ⟨96, _⟩ => ⟨S4x8, .i32⟩
  | .hbm, ⟨97, _⟩ => ⟨S4x8, .i1⟩
  | .hbm, ⟨98, _⟩ => ⟨S_, .i32⟩
  | .hbm, ⟨99, _⟩ => ⟨S4x8, .i32⟩
  | .hbm, ⟨100, _⟩ => ⟨S4x8, .i32⟩
  | .hbm, ⟨101, _⟩ => ⟨S4x8, .i32⟩
  | .hbm, ⟨102, _⟩ => ⟨S4x8, .i32⟩
  | .hbm, ⟨103, _⟩ => ⟨S4x8x1, .i32⟩
  | .hbm, ⟨104, _⟩ => ⟨S4x8x1, .i32⟩
  | .hbm, ⟨105, _⟩ => ⟨S4x8x2, .i32⟩
  | .hbm, ⟨106, _⟩ => ⟨S_, .f32⟩
  | .hbm, ⟨107, _⟩ => ⟨S4x8, .f32⟩
  | .hbm, ⟨108, _⟩ => ⟨S4x64, .f32⟩
  | .hbm, ⟨109, _⟩ => ⟨S4x1x64, .f32⟩
  | .hbm, ⟨110, _⟩ => ⟨S4x2048x64, .f32⟩
  | .hbm, ⟨111, _⟩ => ⟨S4x2048x64, .f32⟩
  | .hbm, ⟨112, _⟩ => ⟨S1x1x64, .f32⟩
  | .hbm, ⟨113, _⟩ => ⟨S4x2048x64, .f32⟩
  | .hbm, ⟨114, _⟩ => ⟨S4x2048x64, .f32⟩
  | .hbm, ⟨115, _⟩ => ⟨S8192x64, .f32⟩
  | .hbm, ⟨116, _⟩ => ⟨S64x64, .f32⟩
  | .hbm, ⟨117, _⟩ => ⟨S8192x64, .f32⟩
  | .hbm, ⟨118, _⟩ => ⟨S4x2048x64, .f32⟩
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_4 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_5 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_6 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_values : Ref sig .tc := ⟨.hbm, 82, rfl⟩
abbrev main_indices : Ref sig .tc := ⟨.hbm, 83, rfl⟩
abbrev main_cst_7 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_8 : Ref sig .tc := ⟨.hbm, 88, rfl⟩
abbrev main_v44 : Ref sig .tc := ⟨.hbm, 89, rfl⟩
abbrev main_v45 : Ref sig .tc := ⟨.hbm, 90, rfl⟩
abbrev main_c_9 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_10 : Ref sig .tc := ⟨.hbm, 95, rfl⟩
abbrev main_v49 : Ref sig .tc := ⟨.hbm, 96, rfl⟩
abbrev main_v50 : Ref sig .tc := ⟨.hbm, 97, rfl⟩
abbrev main_c_11 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_12 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩

abbrev nD : Nat := 1
abbrev τ : Topo := Topo.v7x

variable {F : FTy → Type} [FloatOps F]
-- ==== Proof.KernelIdealRun.lean ====
module

public import proofs.«01_k».proof.Proof.Gen.KernelIdeal.Skeleton
public import proofs.«01_k».proof.Proof.Gen.KernelIdeal.Frame
public import Idealize.ShloMosaic.Lib.Pipeline.FrameSuffixV
public import Idealize.ShloMosaic.Lib.Transfers
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- A memref's buffer on core `c`: its contents. -/
abbrev Bf (c : Dev nD) {sp : Space} {S : Shape} {e : EltTy} (M : Memref sig .tc sp S e) : Type := Buf (Elt F) (M.view.loc (c : Thread nD τ))
/-- A memref's buffer held whole at `f`. -/
abbrev pt (c : Dev nD) {sp : Space} {S : Shape} {e : EltTy} (M : Memref sig .tc sp S e) (f : Bf (F := F) c M) : sProp 𝕄 :=
  M.view.loc (c : Thread nD τ) ↦{fullShare} f
/-- A rectangle of a memref's buffer held at `f`. -/
abbrev ptR (c : Dev nD) {sp : Space} {S : Shape} {e : EltTy} (M : Memref sig .tc sp S e) (R : Rect S) (f : Bf (F := F) c M) : sProp 𝕄 :=
  M.view.loc (c : Thread nD τ) ↦[M.view.setOn R.set]{fullShare} f
/-- The read token number `i` of a memref's buffer. -/
abbrev ptT (c : Dev nD) {sp : Space} {S : Shape} {e : EltTy} (M : Memref sig .tc sp S e) (i : ℕ) (f : Bf (F := F) c M) : sProp 𝕄 :=
  M.view.loc (c : Thread nD τ) ↦{Transfers.shareTokN fullShare i} f
/-- A transfer cell's counter at zero. -/
abbrev cell (c : Dev nD) (i : DmaSem sig) : sProp 𝕄 := semVal ((c : Thread nD τ), SemLoc.dma i) 0

/-- The activations left in HBM, the hidden states left in HBM, the result. -/
abbrev mHid : Memref sig .tc .hbm S4x2048x2048 .f32 := Memref.whole main_arg1
abbrev mAct : Memref sig .tc .hbm S4x64x2048 .f32 := Memref.whole main_v0
abbrev mOut : Memref sig .tc .hbm S4x64x2048 .f32 := Memref.whole main_v8
/-- The ring of twelve slots, the staged activations, the staged result. -/
abbrev mRing : Memref sig .tc .vmem S12x256x2048 .f32 := Memref.whole cc0_scratch0
abbrev mActv : Memref sig .tc .vmem S4x64x2048 .f32 := Memref.whole cc0_scratch1
abbrev mOutv : Memref sig .tc .vmem S4x64x2048 .f32 := Memref.whole cc0_scratch2
abbrev mS0 : Memref sig .tc .vmem S64x64 .f32 := Memref.whole cc0_stg0_0
abbrev mS1 : Memref sig .tc .vmem S32x2048 .f32 := Memref.whole cc0_stg1_0
abbrev mS2 : Memref sig .tc .vmem S1x32 .f32 := Memref.whole cc0_stg2_0
abbrev mS3 : Memref sig .tc .vmem S1x32 .f32 := Memref.whole cc0_stg3_0
abbrev mS4 : Memref sig .tc .vmem S1x32 .f32 := Memref.whole cc0_stg4_0
abbrev mS5 : Memref sig .tc .vmem S32x64 .f32 := Memref.whole cc0_stg5_0
abbrev mS6 : Memref sig .tc .vmem S1x64 .f32 := Memref.whole cc0_stg6_0
abbrev mS7 : Memref sig .tc .vmem S1x64 .f32 := Memref.whole cc0_stg7_0
abbrev mS8 : Memref sig .tc .vmem S1x64 .f32 := Memref.whole cc0_stg8_0
abbrev rR0 : Rect S12x256x2048 := Rect.unit (s := S12x256x2048) ![0, 0, 0] S1x256x2048.size inb_S12x256x2048_S1x256x2048_0_0_0
abbrev rR1 : Rect S12x256x2048 := Rect.unit (s := S12x256x2048) ![1, 0, 0] S1x256x2048.size inb_S12x256x2048_S1x256x2048_1_0_0
abbrev rR2 : Rect S12x256x2048 := Rect.unit (s := S12x256x2048) ![2, 0, 0] S1x256x2048.size inb_S12x256x2048_S1x256x2048_2_0_0
abbrev rR3 : Rect S12x256x2048 := Rect.unit (s := S12x256x2048) ![3, 0, 0] S1x256x2048.size inb_S12x256x2048_S1x256x2048_3_0_0
abbrev rR4 : Rect S12x256x2048 := Rect.unit (s := S12x256x2048) ![4, 0, 0] S1x256x2048.size inb_S12x256x2048_S1x256x2048_4_0_0
abbrev rR5 : Rect S12x256x2048 := Rect.unit (s := S12x256x2048) ![5, 0, 0] S1x256x2048.size inb_S12x256x2048_S1x256x2048_5_0_0
abbrev rR6 : Rect S12x256x2048 := Rect.unit (s := S12x256x2048) ![6, 0, 0] S1x256x2048.size inb_S12x256x2048_S1x256x2048_6_0_0
abbrev rR7 : Rect S12x256x2048 := Rect.unit (s := S12x256x2048) ![7, 0, 0] S1x256x2048.size inb_S12x256x2048_S1x256x2048_7_0_0
abbrev rR8 : Rect S12x256x2048 := Rect.unit (s := S12x256x2048) ![8, 0, 0] S1x256x2048.size inb_S12x256x2048_S1x256x2048_8_0_0
abbrev rR9 : Rect S12x256x2048 := Rect.unit (s := S12x256x2048) ![9, 0, 0] S1x256x2048.size inb_S12x256x2048_S1x256x2048_9_0_0
abbrev rR10 : Rect S12x256x2048 := Rect.unit (s := S12x256x2048) ![10, 0, 0] S1x256x2048.size inb_S12x256x2048_S1x256x2048_10_0_0
abbrev rR11 : Rect S12x256x2048 := Rect.unit (s := S12x256x2048) ![11, 0, 0] S1x256x2048.size inb_S12x256x2048_S1x256x2048_11_0_0
abbrev rO0 : Rect S4x64x2048 := Rect.unit (s := S4x64x2048) ![0, 0, 0] S1x64x2048.size inb_S4x64x2048_S1x64x2048_0_0_0
abbrev rO1 : Rect S4x64x2048 := Rect.unit (s := S4x64x2048) ![1, 0, 0] S1x64x2048.size inb_S4x64x2048_S1x64x2048_1_0_0
abbrev rO2 : Rect S4x64x2048 := Rect.unit (s := S4x64x2048) ![2, 0, 0] S1x64x2048.size inb_S4x64x2048_S1x64x2048_2_0_0
abbrev rO3 : Rect S4x64x2048 := Rect.unit (s := S4x64x2048) ![3, 0, 0] S1x64x2048.size inb_S4x64x2048_S1x64x2048_3_0_0

set_option sl_exec.dmaWindow true in
/-- From the nine staged operands, the activations and the read tokens of the hidden states, the ring's slots, the staged
    buffers, the result's four rows, every transfer cell at zero and the core's waits, the body runs to its return with the
    operands as they were and each row of the result at contents the run finds. -/
noncomputable def kernelRun (c : Dev nD) (x0 : Bf (F := F) c mS0) (x1 : Bf (F := F) c mS1) (x2 : Bf (F := F) c mS2) (x3 : Bf (F := F) c mS3) (x4 : Bf (F := F) c mS4) (x5 : Bf (F := F) c mS5) (x6 : Bf (F := F) c mS6) (x7 : Bf (F := F) c mS7) (x8 : Bf (F := F) c mS8)
    (fa : Bf (F := F) c mAct) (fh : Bf (F := F) c mHid) (fr : Bf (F := F) c mRing) (fv : Bf (F := F) c mActv)
    (fo : Bf (F := F) c mOutv) (fg : Bf (F := F) c mOut) :
    { L : Bf (F := F) c mOut × Bf (F := F) c mOut × Bf (F := F) c mOut × Bf (F := F) c mOut //
      ∀ (W : Waits sig Unit) (K : PUnit → sProp 𝕄),
        iprop(pt c mS0 x0
            ∗ pt c mS1 x1
            ∗ pt c mS2 x2
            ∗ pt c mS3 x3
            ∗ pt c mS4 x4
            ∗ pt c mS5 x5
            ∗ pt c mS6 x6
            ∗ pt c mS7 x7
            ∗ pt c mS8 x8
            ∗ pt c mAct fa
            ∗ ptT c mHid 9 fh
            ∗ ptT c mHid 10 fh
            ∗ ptT c mHid 11 fh
            ∗ ptT c mHid 12 fh
            ∗ ptT c mHid 13 fh
            ∗ ptT c mHid 14 fh
            ∗ ptT c mHid 15 fh
            ∗ ptT c mHid 16 fh
            ∗ ptT c mHid 17 fh
            ∗ ptT c mHid 18 fh
            ∗ ptT c mHid 19 fh
            ∗ ptT c mHid 20 fh
            ∗ ptT c mHid 21 fh
            ∗ ptT c mHid 22 fh
            ∗ ptT c mHid 23 fh
            ∗ ptT c mHid 24 fh
            ∗ ptT c mHid 25 fh
            ∗ ptT c mHid 26 fh
            ∗ ptT c mHid 27 fh
            ∗ ptT c mHid 28 fh
            ∗ ptT c mHid 29 fh
            ∗ ptT c mHid 30 fh
            ∗ ptT c mHid 31 fh
            ∗ ptT c mHid 32 fh
            ∗ ptR c mRing rR0 fr
            ∗ ptR c mRing rR1 fr
            ∗ ptR c mRing rR2 fr
            ∗ ptR c mRing rR3 fr
            ∗ ptR c mRing rR4 fr
            ∗ ptR c mRing rR5 fr
            ∗ ptR c mRing rR6 fr
            ∗ ptR c mRing rR7 fr
            ∗ ptR c mRing rR8 fr
            ∗ ptR c mRing rR9 fr
            ∗ ptR c mRing rR10 fr
            ∗ ptR c mRing rR11 fr
            ∗ pt c mActv fv
            ∗ ptR c mOutv rO0 fo
            ∗ ptR c mOutv rO1 fo
            ∗ ptR c mOutv rO2 fo
            ∗ ptR c mOutv rO3 fo
            ∗ ptR c mOut rO0 fg
            ∗ ptR c mOut rO1 fg
            ∗ ptR c mOut rO2 fg
            ∗ ptR c mOut rO3 fg
            ∗ cell c 9
            ∗ cell c 10
            ∗ cell c 11
            ∗ cell c 12
            ∗ cell c 13
            ∗ cell c 14
            ∗ cell c 15
            ∗ cell c 16
            ∗ cell c 17
            ∗ cell c 18
            ∗ cell c 19
            ∗ cell c 20
            ∗ cell c 21
            ∗ cell c 22
            ∗ cell c 23
            ∗ cell c 24
            ∗ cell c 25
            ∗ cell c 26
            ∗ cell c 27
            ∗ cell c 28
            ∗ cell c 29
            ∗ cell c 30
            ∗ cell c 31
            ∗ cell c 32
            ∗ cell c 33
            ∗ cell c 34
            ∗ cell c 35
            ∗ cell c 36
            ∗ cell c 37
            ∗ owes (c : Thread nD τ) 0 W
            ∗ (iprop(pt c mS0 x0
            ∗     pt c mS1 x1
            ∗     pt c mS2 x2
            ∗     pt c mS3 x3
            ∗     pt c mS4 x4
            ∗     pt c mS5 x5
            ∗     pt c mS6 x6
            ∗     pt c mS7 x7
            ∗     pt c mS8 x8
            ∗     pt c mAct fa
            ∗     ptT c mHid 9 fh
            ∗     ptT c mHid 10 fh
            ∗     ptT c mHid 11 fh
            ∗     ptT c mHid 12 fh
            ∗     ptT c mHid 13 fh
            ∗     ptT c mHid 14 fh
            ∗     ptT c mHid 15 fh
            ∗     ptT c mHid 16 fh
            ∗     ptT c mHid 17 fh
            ∗     ptT c mHid 18 fh
            ∗     ptT c mHid 19 fh
            ∗     ptT c mHid 20 fh
            ∗     ptT c mHid 21 fh
            ∗     ptT c mHid 22 fh
            ∗     ptT c mHid 23 fh
            ∗     ptT c mHid 24 fh
            ∗     ptT c mHid 25 fh
            ∗     ptT c mHid 26 fh
            ∗     ptT c mHid 27 fh
            ∗     ptT c mHid 28 fh
            ∗     ptT c mHid 29 fh
            ∗     ptT c mHid 30 fh
            ∗     ptT c mHid 31 fh
            ∗     ptT c mHid 32 fh
            ∗     (∃ f, ptR c mRing rR0 f)
            ∗     (∃ f, ptR c mRing rR1 f)
            ∗     (∃ f, ptR c mRing rR2 f)
            ∗     (∃ f, ptR c mRing rR3 f)
            ∗     (∃ f, ptR c mRing rR4 f)
            ∗     (∃ f, ptR c mRing rR5 f)
            ∗     (∃ f, ptR c mRing rR6 f)
            ∗     (∃ f, ptR c mRing rR7 f)
            ∗     (∃ f, ptR c mRing rR8 f)
            ∗     (∃ f, ptR c mRing rR9 f)
            ∗     (∃ f, ptR c mRing rR10 f)
            ∗     (∃ f, ptR c mRing rR11 f)
            ∗     (∃ f, pt c mActv f)
            ∗     (∃ f, ptR c mOutv rO0 f)
            ∗     (∃ f, ptR c mOutv rO1 f)
            ∗     (∃ f, ptR c mOutv rO2 f)
            ∗     (∃ f, ptR c mOutv rO3 f)
            ∗     ptR c mOut rO0 L.1
            ∗     ptR c mOut rO1 L.2.1
            ∗     ptR c mOut rO2 L.2.2.1
            ∗     ptR c mOut rO3 L.2.2.2
            ∗     cell c 9
            ∗     cell c 10
            ∗     cell c 11
            ∗     cell c 12
            ∗     cell c 13
            ∗     cell c 14
            ∗     cell c 15
            ∗     cell c 16
            ∗     cell c 17
            ∗     cell c 18
            ∗     cell c 19
            ∗     cell c 20
            ∗     cell c 21
            ∗     cell c 22
            ∗     cell c 23
            ∗     cell c 24
            ∗     cell c 25
            ∗     cell c 26
            ∗     cell c 27
            ∗     cell c 28
            ∗     cell c 29
            ∗     cell c 30
            ∗     cell c 31
            ∗     cell c 32
            ∗     cell c 33
            ∗     cell c 34
            ∗     cell c 35
            ∗     cell c 36
            ∗     cell c 37
                ∗ (∃ W', owes (c : Thread nD τ) 0 W')) -∗ K ⟨⟩))
          ⊢ wp frame (wpE (defs₀ (F := F)) Variants.none c none) Set.univ
              (cc0__fused_kernel mHid (Memref.isWhole_whole _) mAct (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mS8 (Memref.isWhole_whole _) mOut (Memref.isWhole_whole _) mRing (Memref.isWhole_whole _) mActv (Memref.isWhole_whole _) mOutv (Memref.isWhole_whole _) cc0_scratch3 cc0_scratch4 cc0_scratch5) K } := by
  refine ⟨⟨?_, ?_, ?_, ?_⟩, fun W K => ?run⟩
  case run =>
    iintro ⟨HS0, HS1, HS2, HS3, HS4, HS5, HS6, HS7, HS8, HA, Ht9, Ht10, Ht11, Ht12, Ht13, Ht14, Ht15, Ht16, Ht17, Ht18, Ht19, Ht20, Ht21, Ht22, Ht23, Ht24, Ht25, Ht26, Ht27, Ht28, Ht29, Ht30, Ht31, Ht32, HR0, HR1, HR2, HR3, HR4, HR5, HR6, HR7, HR8, HR9, HR10, HR11, HAV, HO0, HO1, HO2, HO3, HG0, HG1, HG2, HG3, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, HW, Hk⟩
    sl_exec_parts
    sl_step
    iapply Hk
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HA]; · iexact HA
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [HR0]; · iexists _; iexact HR0
    isplitl [HR1]; · iexists _; iexact HR1
    isplitl [HR2]; · iexists _; iexact HR2
    isplitl [HR3]; · iexists _; iexact HR3
    isplitl [HR4]; · iexists _; iexact HR4
    isplitl [HR5]; · iexists _; iexact HR5
    isplitl [HR6]; · iexists _; iexact HR6
    isplitl [HR7]; · iexists _; iexact HR7
    isplitl [HR8]; · iexists _; iexact HR8
    isplitl [HR9]; · iexists _; iexact HR9
    isplitl [HR10]; · iexists _; iexact HR10
    isplitl [HR11]; · iexists _; iexact HR11
    isplitl [HAV]; · iexists _; iexact HAV
    isplitl [HO0]; · iexists _; iexact HO0
    isplitl [HO1]; · iexists _; iexact HO1
    isplitl [HO2]; · iexists _; iexact HO2
    isplitl [HO3]; · iexists _; iexact HO3
    isplitl [HG0]; · iexact HG0
    isplitl [HG1]; · iexact HG1
    isplitl [HG2]; · iexact HG2
    isplitl [HG3]; · iexact HG3
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    isplitl [Hc31]; · iexact Hc31
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    iexists _; iexact HW

end Cert.KernelIdeal.Hand

end
-- ==== Proof.KernelIdealRows.lean ====
module

public import proofs.«01_k».proof.Proof.Gen.KernelIdeal.Skeleton
public import proofs.«01_k».proof.Proof.Gen.KernelIdeal.Frame
public import Idealize.ShloMosaic.Lib.Pipeline.FrameSuffixV
public import Idealize.ShloMosaic.Lib.Transfers
public import Idealize.ShloMosaic.Lib.Tactic
public import Idealize.ShloMosaic.Lib.ValueLayout
public import Idealize.ShloMosaic.Lib.ViewIndex
public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## What the transfers land: a chunk of the hidden states, a row of the activations -/

/-- Chunk `k` of batch row `b` of the hidden states: 256 positions, as the ring's slot holds them. -/
def chunk (fh : S4x2048x2048.Idx → Elt F .f32) (b : Fin 4) (k : Fin 8) : Vec F S1x256x2048 .f32 :=
  fun i => fh (ix3 b ⟨256 * k.val + (i 1).val, by have h1 : (i 1).val < 256 := (i 1).isLt; have h2 := k.isLt; omega⟩ (i 2))

/-- Batch row `b` of the activations. -/
def arow (fa : S4x64x2048.Idx → Elt F .f32) (b : Fin 4) : Vec F S1x64x2048 .f32 := fun i => fa (ix3 b (i 1) (i 2))

/-- One half of a slot, as a window: where index `(x, y)` of the half sits in the ring. -/
theorem half_emb (s o : ℕ) (hs : ∀ a, (![s, 0, o] : Fin 3 → ℕ) a + S1x256x1024.size a ≤ S12x256x2048.size a) (q)
    (h1 : s < 12) (x : Fin 256) (y : Fin 1024) (h2 : o + y.val < 2048) :
    ((mRing.slice (Rect.unit (s := S12x256x2048) ![s, 0, o] S1x256x1024.size hs) q).squeeze S256x1024 squeezes_S1x256x1024_S256x1024).view.emb (ix2 x y)
      = ix3 (⟨s, h1⟩ : Fin 12) x (⟨o + y.val, h2⟩ : Fin 2048) := by
  show (Rect.unit (s := S12x256x2048) ![s, 0, o] S1x256x1024.size hs).emb (Shape.reshapeEquiv squeezes_S1x256x1024_S256x1024.numel_eq (ix2 x y)) = _
  erw [reshapeEquiv_ix2_1ab]
  refine Shape.idx3_ext ?_ ?_ ?_
  · show s + 1 * 0 = s; omega
  · show 0 + 1 * x.val = x.val; omega
  · show o + 1 * y.val = o + y.val; omega

/-- The same for a half chunk of the hidden states. -/
theorem halfH_emb (b p o : ℕ) (hs : ∀ a, (![b, p, o] : Fin 3 → ℕ) a + S1x256x1024.size a ≤ S4x2048x2048.size a) (q)
    (h1 : b < 4) (x : Fin 256) (y : Fin 1024) (h2 : o + y.val < 2048) (h3 : p + x.val < 2048) :
    ((mHid.slice (Rect.unit (s := S4x2048x2048) ![b, p, o] S1x256x1024.size hs) q).squeeze S256x1024 squeezes_S1x256x1024_S256x1024).view.emb (ix2 x y)
      = ix3 (⟨b, h1⟩ : Fin 4) (⟨p + x.val, h3⟩ : Fin 2048) (⟨o + y.val, h2⟩ : Fin 2048) := by
  show (Rect.unit (s := S4x2048x2048) ![b, p, o] S1x256x1024.size hs).emb (Shape.reshapeEquiv squeezes_S1x256x1024_S256x1024.numel_eq (ix2 x y)) = _
  erw [reshapeEquiv_ix2_1ab]
  refine Shape.idx3_ext ?_ ?_ ?_
  · show b + 1 * 0 = b; omega
  · show p + 1 * x.val = p + x.val; omega
  · show o + 1 * y.val = o + y.val; omega

/-- A slot whose two halves have been landed from batch row `b`, positions `p` on, is read as that chunk of the hidden
    states, whatever the ring held before. -/
theorem chunk_read (c : Dev nD) (fh : Bf (F := F) c mHid) (g : Bf (F := F) c mRing) (s b p : ℕ) (bf : Fin 4) (k : Fin 8)
    (hb : b = bf.val) (hp : p = 256 * k.val)
    (hr : ∀ a, (![s, 0, 0] : Fin 3 → ℕ) a + S1x256x2048.size a ≤ S12x256x2048.size a)
    (h0 : ∀ a, (![s, 0, 0] : Fin 3 → ℕ) a + S1x256x1024.size a ≤ S12x256x2048.size a) (q0)
    (h1 : ∀ a, (![s, 0, 1024] : Fin 3 → ℕ) a + S1x256x1024.size a ≤ S12x256x2048.size a) (q1)
    (h2 : ∀ a, (![b, p, 0] : Fin 3 → ℕ) a + S1x256x1024.size a ≤ S4x2048x2048.size a) (q2)
    (h3 : ∀ a, (![b, p, 1024] : Fin 3 → ℕ) a + S1x256x1024.size a ≤ S4x2048x2048.size a) (q3) :
    View.readAt (Elt F) mRing.view (Rect.unit (s := S12x256x2048) ![s, 0, 0] S1x256x2048.size hr).toLoadRect
      (View.write (Elt F) ((mRing.slice (Rect.unit (s := S12x256x2048) ![s, 0, 1024] S1x256x1024.size h1) q1).squeeze S256x1024 squeezes_S1x256x1024_S256x1024).view
        (View.write (Elt F) ((mRing.slice (Rect.unit (s := S12x256x2048) ![s, 0, 0] S1x256x1024.size h0) q0).squeeze S256x1024 squeezes_S1x256x1024_S256x1024).view g
          (ReadAs.same.apply (View.read (Elt F) ((mHid.slice (Rect.unit (s := S4x2048x2048) ![b, p, 0] S1x256x1024.size h2) q2).squeeze S256x1024 squeezes_S1x256x1024_S256x1024).view fh)) Finset.univ)
        (ReadAs.same.apply (View.read (Elt F) ((mHid.slice (Rect.unit (s := S4x2048x2048) ![b, p, 1024] S1x256x1024.size h3) q3).squeeze S256x1024 squeezes_S1x256x1024_S256x1024).view fh)) Finset.univ)
      = chunk fh bf k := by
  subst hb hp
  have hs : s < 12 := by have := hr 0; simp [S1x256x2048, S12x256x2048] at this; omega
  funext i
  have hi1 : (i 1).val < 256 := (i 1).isLt
  have hi2 : (i 2).val < 2048 := (i 2).isLt
  have hi0 : (i 0).val < 1 := (i 0).isLt
  have hk := k.isLt
  have he : (Rect.unit (s := S12x256x2048) ![s, 0, 0] S1x256x2048.size hr).toLoadRect.idx i = ix3 (⟨s, hs⟩ : Fin 12) (⟨(i 1).val, hi1⟩ : Fin 256) (⟨(i 2).val, hi2⟩ : Fin 2048) := by
    refine Shape.idx3_ext ?_ ?_ ?_
    · show s + 1 * (i 0).val = s; omega
    · show 0 + 1 * (i 1).val = (i 1).val; omega
    · show 0 + 1 * (i 2).val = (i 2).val; omega
  rw [View.readAt_apply, he]
  show View.write (Elt F) _ _ _ _ _ = _
  by_cases hlt : (i 2).val < 1024
  · rw [View.write_of_not_mem]
    · have e := half_emb s 0 h0 q0 hs ⟨(i 1).val, hi1⟩ ⟨(i 2).val, hlt⟩ (by show 0 + (i 2).val < 2048; omega)
      have e' : (ix3 (⟨s, hs⟩ : Fin 12) (⟨(i 1).val, hi1⟩ : Fin 256) (⟨(i 2).val, hi2⟩ : Fin 2048)) = ((mRing.slice (Rect.unit (s := S12x256x2048) ![s, 0, 0] S1x256x1024.size h0) q0).squeeze S256x1024 squeezes_S1x256x1024_S256x1024).view.emb (ix2 ⟨(i 1).val, hi1⟩ ⟨(i 2).val, hlt⟩) := by
        rw [e]; refine Shape.idx3_ext rfl rfl ?_; show (i 2).val = 0 + (i 2).val; omega
      refine (congrArg _ e').trans ?_
      rw [View.write_emb_of_mem _ _ (Finset.mem_univ _)]
      show fh (((mHid.slice (Rect.unit (s := S4x2048x2048) ![bf.val, 256 * k.val, 0] S1x256x1024.size h2) q2).squeeze S256x1024 squeezes_S1x256x1024_S256x1024).view.emb (ix2 ⟨(i 1).val, hi1⟩ ⟨(i 2).val, hlt⟩)) = fh _
      rw [halfH_emb bf.val (256 * k.val) 0 h2 q2 bf.isLt _ _ (by show 0 + (i 2).val < 2048; omega) (by show 256 * k.val + (i 1).val < 2048; omega)]
      refine congrArg fh (Shape.idx3_ext rfl rfl ?_); show 0 + (i 2).val = (i 2).val; omega
    · intro hm
      obtain ⟨x, -, e⟩ := Finset.mem_map.mp hm
      obtain ⟨x0, x1, rfl⟩ : ∃ (x0 : Fin 256) (x1 : Fin 1024), x = ix2 x0 x1 := ⟨x 0, x 1, eq_ix2 x⟩
      have hx1 := x1.isLt
      rw [half_emb s 1024 h1 q1 hs x0 x1 (by omega)] at e
      have := congrArg (fun z : S12x256x2048.Idx => (z 2).val) e
      have h : 1024 + x1.val = (i 2).val := this
      omega
  · have hy : (i 2).val - 1024 < 1024 := by omega
    have e' : (ix3 (⟨s, hs⟩ : Fin 12) (⟨(i 1).val, hi1⟩ : Fin 256) (⟨(i 2).val, hi2⟩ : Fin 2048)) = ((mRing.slice (Rect.unit (s := S12x256x2048) ![s, 0, 1024] S1x256x1024.size h1) q1).squeeze S256x1024 squeezes_S1x256x1024_S256x1024).view.emb (ix2 ⟨(i 1).val, hi1⟩ ⟨(i 2).val - 1024, hy⟩) := by
      rw [half_emb s 1024 h1 q1 hs _ _ (by show 1024 + ((i 2).val - 1024) < 2048; omega)]
      refine Shape.idx3_ext rfl rfl ?_; show (i 2).val = 1024 + ((i 2).val - 1024); omega
    refine (congrArg _ e').trans ?_
    rw [View.write_emb_of_mem _ _ (Finset.mem_univ _)]
    show fh (((mHid.slice (Rect.unit (s := S4x2048x2048) ![bf.val, 256 * k.val, 1024] S1x256x1024.size h3) q3).squeeze S256x1024 squeezes_S1x256x1024_S256x1024).view.emb (ix2 ⟨(i 1).val, hi1⟩ ⟨(i 2).val - 1024, hy⟩)) = fh _
    rw [halfH_emb bf.val (256 * k.val) 1024 h3 q3 bf.isLt _ _ (by show 1024 + ((i 2).val - 1024) < 2048; omega) (by show 256 * k.val + (i 1).val < 2048; omega)]
    refine congrArg fh (Shape.idx3_ext rfl rfl ?_); show 1024 + ((i 2).val - 1024) = (i 2).val; omega

/-- The staged activations, landed whole, are read at row `b` as that row. -/
theorem arow_read (c : Dev nD) (fa : Bf (F := F) c mAct) (fv : Bf (F := F) c mActv) (b : ℕ) (bf : Fin 4) (hb : b = bf.val)
    (hr : ∀ a, (![b, 0, 0] : Fin 3 → ℕ) a + S1x64x2048.size a ≤ S4x64x2048.size a) :
    View.readAt (Elt F) mActv.view (Rect.unit (s := S4x64x2048) ![b, 0, 0] S1x64x2048.size hr).toLoadRect
      (View.write (Elt F) mActv.view fv (ReadAs.same.apply (View.read (Elt F) mAct.view fa)) Finset.univ) = arow fa bf := by
  subst hb
  funext i
  have hi0 : (i 0).val < 1 := (i 0).isLt
  rw [View.readAt_apply]
  have hw := congrFun (View.read_write_univ (v := mActv.view) (Val := Elt F) fv (ReadAs.same.apply (View.read (Elt F) mAct.view fa)))
    ((Rect.unit (s := S4x64x2048) ![bf.val, 0, 0] S1x64x2048.size hr).toLoadRect.idx i)
  refine hw.trans ?_
  show fa _ = fa _
  refine congrArg fa (Shape.idx3_ext ?_ ?_ ?_)
  · show bf.val + 1 * (i 0).val = bf.val; omega
  · show 0 + 1 * (i 1).val = (i 1).val; omega
  · show 0 + 1 * (i 2).val = (i 2).val; omega

/-- Where index `(x, y)` of a row's window sits in the four rows. -/
theorem row_emb {sp : Space} (M : Memref sig .tc sp S4x64x2048 .f32) (b : ℕ) (hs : ∀ a, (![b, 0, 0] : Fin 3 → ℕ) a + S1x64x2048.size a ≤ S4x64x2048.size a) (h1 : b < 4)
    (x : Fin 64) (y : Fin 2048) :
    (Rect.unit (s := S4x64x2048) ![b, 0, 0] S1x64x2048.size hs).emb (Shape.reshapeEquiv squeezes_S1x64x2048_S64x2048.numel_eq (ix2 x y))
      = ix3 (⟨b, h1⟩ : Fin 4) x y := by
  erw [reshapeEquiv_ix2_1ab]
  refine Shape.idx3_ext ?_ ?_ ?_
  · show b + 1 * 0 = b; omega
  · show 0 + 1 * x.val = x.val; omega
  · show 0 + 1 * y.val = y.val; omega

/-- A row of the result landed from the staged row, which was stored whole: on that row it holds the stored vector,
    whatever both buffers held before. -/
theorem row_landed (c : Dev nD) (fo : Bf (F := F) c mOutv) (fg : Bf (F := F) c mOut) (b : ℕ) (hb : b < 4)
    (hr h0 h1 : ∀ a, (![b, 0, 0] : Fin 3 → ℕ) a + S1x64x2048.size a ≤ S4x64x2048.size a) (q0 q1)
    (P : Vec F S1x64x2048 .f32) (i : S4x64x2048.Idx) (hi : (i 0).val = b) :
    View.write (Elt F) ((mOut.slice (Rect.unit (s := S4x64x2048) ![b, 0, 0] S1x64x2048.size h0) q0).squeeze S64x2048 squeezes_S1x64x2048_S64x2048).view fg
      (ReadAs.same.apply (View.read (Elt F) ((mOutv.slice (Rect.unit (s := S4x64x2048) ![b, 0, 0] S1x64x2048.size h1) q1).squeeze S64x2048 squeezes_S1x64x2048_S64x2048).view
        (mOutv.view.writes (Elt F) fo [⟨Rect.unit (s := S4x64x2048) ![b, 0, 0] S1x64x2048.size hr, P⟩]))) Finset.univ i
      = P (ix3 (0 : Fin 1) (i 1) (i 2)) := by
  have e' : i = ((mOut.slice (Rect.unit (s := S4x64x2048) ![b, 0, 0] S1x64x2048.size h0) q0).squeeze S64x2048 squeezes_S1x64x2048_S64x2048).view.emb (ix2 (i 1) (i 2)) := by
    refine Eq.trans ?_ (row_emb mOut b h0 hb (i 1) (i 2)).symm
    exact Shape.idx3_ext hi rfl rfl
  refine (congrArg _ e').trans ?_
  rw [View.write_emb_of_mem _ _ (Finset.mem_univ _)]
  have hw : mOutv.view.writes (Elt F) fo [⟨Rect.unit (s := S4x64x2048) ![b, 0, 0] S1x64x2048.size hr, P⟩]
      = View.write (Elt F) (mOutv.view.slice (Rect.unit (s := S4x64x2048) ![b, 0, 0] S1x64x2048.size hr)) fo P Finset.univ := rfl
  generalize mOutv.view.writes (Elt F) fo [⟨Rect.unit (s := S4x64x2048) ![b, 0, 0] S1x64x2048.size hr, P⟩] = Z at hw
  show View.read (Elt F) (mOutv.view.slice (Rect.unit (s := S4x64x2048) ![b, 0, 0] S1x64x2048.size hr)) Z
      (Shape.reshapeEquiv squeezes_S1x64x2048_S64x2048.numel_eq (ix2 (i 1) (i 2))) = _
  rw [hw, View.read_write_univ]
  erw [reshapeEquiv_ix2_1ab]
  rfl

/-! ## The result's rows -/

/-- The pooled row sums of a batch row, eight chunks accumulated in turn. -/
def pooled (fh : S4x2048x2048.Idx → Elt F .f32) (b : Fin 4) : FVec F S8x2048 .f32 :=
  k0_pay8 (k0_pay7 (k0_pay6 (k0_pay5 (k0_pay4 (k0_pay3 (k0_pay2 (k0_pay1 (chunk fh b 0)) (chunk fh b 1)) (chunk fh b 2))
    (chunk fh b 3)) (chunk fh b 4)) (chunk fh b 5)) (chunk fh b 6)) (chunk fh b 7)

/-- A batch row of the result, from the nine staged operands, the activations and the hidden states. -/
def outRow (x0 : S64x64.Idx → Elt F .f32) (x1 : S32x2048.Idx → Elt F .f32) (x2 x3 x4 : S1x32.Idx → Elt F .f32)
    (x5 : S32x64.Idx → Elt F .f32) (x6 x7 x8 : S1x64.Idx → Elt F .f32) (fa : S4x64x2048.Idx → Elt F .f32)
    (fh : S4x2048x2048.Idx → Elt F .f32) (b : Fin 4) : Vec F S1x64x2048 .f32 :=
  k0_pay11 (k0_pay10 (iota Kind.tc S64x64 32 [1] iota_S64x64_d1_w32) (iota Kind.tc S64x64 32 [0] iota_S64x64_d0_w32)
    (k0_pay9 (pooled fh b) x1 x2 x3) x4 x5 x6 x7 x8 x0) (arow fa b)

/-- The whole result. -/
def outAll (x0 : S64x64.Idx → Elt F .f32) (x1 : S32x2048.Idx → Elt F .f32) (x2 x3 x4 : S1x32.Idx → Elt F .f32)
    (x5 : S32x64.Idx → Elt F .f32) (x6 x7 x8 : S1x64.Idx → Elt F .f32) (fa : S4x64x2048.Idx → Elt F .f32)
    (fh : S4x2048x2048.Idx → Elt F .f32) : S4x64x2048.Idx → Elt F .f32 :=
  fun i => outRow x0 x1 x2 x3 x4 x5 x6 x7 x8 fa fh (i 0) (ix3 (0 : Fin 1) (i 1) (i 2))

variable (c : Dev nD) (x0 : Bf (F := F) c mS0) (x1 : Bf (F := F) c mS1) (x2 : Bf (F := F) c mS2) (x3 : Bf (F := F) c mS3)
  (x4 : Bf (F := F) c mS4) (x5 : Bf (F := F) c mS5) (x6 : Bf (F := F) c mS6) (x7 : Bf (F := F) c mS7) (x8 : Bf (F := F) c mS8)
  (fa : Bf (F := F) c mAct) (fh : Bf (F := F) c mHid) (fr : Bf (F := F) c mRing) (fv : Bf (F := F) c mActv)
  (fo : Bf (F := F) c mOutv) (fg : Bf (F := F) c mOut)

/-- A whole load reads every element in its place. -/
theorem load2 {a b : ℕ} (h : ∀ k, (![0, 0] : Fin 2 → ℕ) k + (⟨2, ![a, b]⟩ : Shape).size k ≤ (⟨2, ![a, b]⟩ : Shape).size k) :
    (Rect.unit (s := ⟨2, ![a, b]⟩) ![0, 0] (⟨2, ![a, b]⟩ : Shape).size h).toLoadRect.idx = id := by
  funext i; funext k
  match k with
  | ⟨0, _⟩ => exact Fin.ext (by show 0 + 1 * (i 0).val = (i 0).val; omega)
  | ⟨1, _⟩ => exact Fin.ext (by show 0 + 1 * (i 1).val = (i 1).val; omega)

theorem v158_eq : kernelRun.sl.v158 c fh fr = chunk fh 0 0 :=
  chunk_read c fh _ 0 0 0 0 0 rfl rfl _ _ _ _ _ _ _ _ _
theorem v186_eq : kernelRun.sl.v186 c fh fr = chunk fh 0 1 :=
  chunk_read c fh _ 1 0 256 0 1 rfl rfl _ _ _ _ _ _ _ _ _
theorem v215_eq : kernelRun.sl.v215 c fh fr = chunk fh 0 2 :=
  chunk_read c fh _ 2 0 512 0 2 rfl rfl _ _ _ _ _ _ _ _ _
theorem v244_eq : kernelRun.sl.v244 c fh fr = chunk fh 0 3 :=
  chunk_read c fh _ 3 0 768 0 3 rfl rfl _ _ _ _ _ _ _ _ _
theorem v273_eq : kernelRun.sl.v273 c fh fr = chunk fh 0 4 :=
  chunk_read c fh _ 4 0 1024 0 4 rfl rfl _ _ _ _ _ _ _ _ _
theorem v302_eq : kernelRun.sl.v302 c fh fr = chunk fh 0 5 :=
  chunk_read c fh _ 5 0 1280 0 5 rfl rfl _ _ _ _ _ _ _ _ _
theorem v331_eq : kernelRun.sl.v331 c fh fr = chunk fh 0 6 :=
  chunk_read c fh _ 6 0 1536 0 6 rfl rfl _ _ _ _ _ _ _ _ _
theorem v360_eq : kernelRun.sl.v360 c fh fr = chunk fh 0 7 :=
  chunk_read c fh _ 7 0 1792 0 7 rfl rfl _ _ _ _ _ _ _ _ _
theorem v475_eq : kernelRun.sl.v475 c fh fr = chunk fh 1 0 :=
  chunk_read c fh _ 8 1 0 1 0 rfl rfl _ _ _ _ _ _ _ _ _
theorem v503_eq : kernelRun.sl.v503 c fh fr = chunk fh 1 1 :=
  chunk_read c fh _ 9 1 256 1 1 rfl rfl _ _ _ _ _ _ _ _ _
theorem v532_eq : kernelRun.sl.v532 c fh fr = chunk fh 1 2 :=
  chunk_read c fh _ 10 1 512 1 2 rfl rfl _ _ _ _ _ _ _ _ _
theorem v561_eq : kernelRun.sl.v561 c fh fr = chunk fh 1 3 :=
  chunk_read c fh _ 11 1 768 1 3 rfl rfl _ _ _ _ _ _ _ _ _
theorem v590_eq : kernelRun.sl.v590 c fh fr = chunk fh 1 4 :=
  chunk_read c fh _ 0 1 1024 1 4 rfl rfl _ _ _ _ _ _ _ _ _
theorem v619_eq : kernelRun.sl.v619 c fh fr = chunk fh 1 5 :=
  chunk_read c fh _ 1 1 1280 1 5 rfl rfl _ _ _ _ _ _ _ _ _
theorem v648_eq : kernelRun.sl.v648 c fh fr = chunk fh 1 6 :=
  chunk_read c fh _ 2 1 1536 1 6 rfl rfl _ _ _ _ _ _ _ _ _
theorem v677_eq : kernelRun.sl.v677 c fh fr = chunk fh 1 7 :=
  chunk_read c fh _ 3 1 1792 1 7 rfl rfl _ _ _ _ _ _ _ _ _
theorem v792_eq : kernelRun.sl.v792 c fh fr = chunk fh 2 0 :=
  chunk_read c fh _ 4 2 0 2 0 rfl rfl _ _ _ _ _ _ _ _ _
theorem v820_eq : kernelRun.sl.v820 c fh fr = chunk fh 2 1 :=
  chunk_read c fh _ 5 2 256 2 1 rfl rfl _ _ _ _ _ _ _ _ _
theorem v849_eq : kernelRun.sl.v849 c fh fr = chunk fh 2 2 :=
  chunk_read c fh _ 6 2 512 2 2 rfl rfl _ _ _ _ _ _ _ _ _
theorem v878_eq : kernelRun.sl.v878 c fh fr = chunk fh 2 3 :=
  chunk_read c fh _ 7 2 768 2 3 rfl rfl _ _ _ _ _ _ _ _ _
theorem v907_eq : kernelRun.sl.v907 c fh fr = chunk fh 2 4 :=
  chunk_read c fh _ 8 2 1024 2 4 rfl rfl _ _ _ _ _ _ _ _ _
theorem v924_eq : kernelRun.sl.v924 c fh fr = chunk fh 2 5 :=
  chunk_read c fh _ 9 2 1280 2 5 rfl rfl _ _ _ _ _ _ _ _ _
theorem v941_eq : kernelRun.sl.v941 c fh fr = chunk fh 2 6 :=
  chunk_read c fh _ 10 2 1536 2 6 rfl rfl _ _ _ _ _ _ _ _ _
theorem v958_eq : kernelRun.sl.v958 c fh fr = chunk fh 2 7 :=
  chunk_read c fh _ 11 2 1792 2 7 rfl rfl _ _ _ _ _ _ _ _ _
theorem v1061_eq : kernelRun.sl.v1061 c fh fr = chunk fh 3 0 :=
  chunk_read c fh _ 0 3 0 3 0 rfl rfl _ _ _ _ _ _ _ _ _
theorem v1077_eq : kernelRun.sl.v1077 c fh fr = chunk fh 3 1 :=
  chunk_read c fh _ 1 3 256 3 1 rfl rfl _ _ _ _ _ _ _ _ _
theorem v1094_eq : kernelRun.sl.v1094 c fh fr = chunk fh 3 2 :=
  chunk_read c fh _ 2 3 512 3 2 rfl rfl _ _ _ _ _ _ _ _ _
theorem v1111_eq : kernelRun.sl.v1111 c fh fr = chunk fh 3 3 :=
  chunk_read c fh _ 3 3 768 3 3 rfl rfl _ _ _ _ _ _ _ _ _
theorem v1128_eq : kernelRun.sl.v1128 c fh fr = chunk fh 3 4 :=
  chunk_read c fh _ 4 3 1024 3 4 rfl rfl _ _ _ _ _ _ _ _ _
theorem v1145_eq : kernelRun.sl.v1145 c fh fr = chunk fh 3 5 :=
  chunk_read c fh _ 5 3 1280 3 5 rfl rfl _ _ _ _ _ _ _ _ _
theorem v1162_eq : kernelRun.sl.v1162 c fh fr = chunk fh 3 6 :=
  chunk_read c fh _ 6 3 1536 3 6 rfl rfl _ _ _ _ _ _ _ _ _
theorem v1179_eq : kernelRun.sl.v1179 c fh fr = chunk fh 3 7 :=
  chunk_read c fh _ 7 3 1792 3 7 rfl rfl _ _ _ _ _ _ _ _ _
theorem load_S0 : View.readAt (Elt F) mS0.view (Rect.unit (s := S64x64) ![0, 0] S64x64.size inb_S64x64_S64x64_0_0).toLoadRect x0 = x0 := by
  funext i; exact congrArg x0 (congrFun (load2 _) i)

theorem load_S1 : View.readAt (Elt F) mS1.view (Rect.unit (s := S32x2048) ![0, 0] S32x2048.size inb_S32x2048_S32x2048_0_0).toLoadRect x1 = x1 := by
  funext i; exact congrArg x1 (congrFun (load2 _) i)

theorem load_S2 : View.readAt (Elt F) mS2.view (Rect.unit (s := S1x32) ![0, 0] S1x32.size inb_S1x32_S1x32_0_0).toLoadRect x2 = x2 := by
  funext i; exact congrArg x2 (congrFun (load2 _) i)

theorem load_S3 : View.readAt (Elt F) mS3.view (Rect.unit (s := S1x32) ![0, 0] S1x32.size inb_S1x32_S1x32_0_0).toLoadRect x3 = x3 := by
  funext i; exact congrArg x3 (congrFun (load2 _) i)

theorem load_S4 : View.readAt (Elt F) mS4.view (Rect.unit (s := S1x32) ![0, 0] S1x32.size inb_S1x32_S1x32_0_0).toLoadRect x4 = x4 := by
  funext i; exact congrArg x4 (congrFun (load2 _) i)

theorem load_S5 : View.readAt (Elt F) mS5.view (Rect.unit (s := S32x64) ![0, 0] S32x64.size inb_S32x64_S32x64_0_0).toLoadRect x5 = x5 := by
  funext i; exact congrArg x5 (congrFun (load2 _) i)

theorem load_S6 : View.readAt (Elt F) mS6.view (Rect.unit (s := S1x64) ![0, 0] S1x64.size inb_S1x64_S1x64_0_0).toLoadRect x6 = x6 := by
  funext i; exact congrArg x6 (congrFun (load2 _) i)

theorem load_S7 : View.readAt (Elt F) mS7.view (Rect.unit (s := S1x64) ![0, 0] S1x64.size inb_S1x64_S1x64_0_0).toLoadRect x7 = x7 := by
  funext i; exact congrArg x7 (congrFun (load2 _) i)

theorem load_S8 : View.readAt (Elt F) mS8.view (Rect.unit (s := S1x64) ![0, 0] S1x64.size inb_S1x64_S1x64_0_0).toLoadRect x8 = x8 := by
  funext i; exact congrArg x8 (congrFun (load2 _) i)

/-- The first seven chunks of a batch row pooled. -/
def pooled7 (fh : S4x2048x2048.Idx → Elt F .f32) (b : Fin 4) : FVec F S8x2048 .f32 :=
  k0_pay7 (k0_pay6 (k0_pay5 (k0_pay4 (k0_pay3 (k0_pay2 (k0_pay1 (chunk fh b 0)) (chunk fh b 1)) (chunk fh b 2))
    (chunk fh b 3)) (chunk fh b 4)) (chunk fh b 5)) (chunk fh b 6)

theorem r_7_eq : kernelRun.sl.r_7 c fh fr = pooled fh 0 := by
  unfold kernelRun.sl.r_7 kernelRun.sl.r_6 kernelRun.sl.r_5 kernelRun.sl.r_4 kernelRun.sl.r_3 kernelRun.sl.r_2 kernelRun.sl.r_1 kernelRun.sl.r
  rw [v158_eq, v186_eq, v215_eq, v244_eq, v273_eq, v302_eq, v331_eq, v360_eq]; rfl

theorem pay_row0 : k0_pay11 (kernelRun.sl.r_9 c x0 x1 x2 x3 x4 x5 x6 x7 x8 fh fr) (View.readAt (Elt F) mActv.view (Rect.unit (s := S4x64x2048) ![0, 0, 0] S1x64x2048.size inb_S4x64x2048_S1x64x2048_0_0_0).toLoadRect (View.write (Elt F) mActv.view fv (kernelRun.sl.dma0_24 c fa) Finset.univ)) = outRow x0 x1 x2 x3 x4 x5 x6 x7 x8 fa fh 0 := by
  have ha : (View.readAt (Elt F) mActv.view (Rect.unit (s := S4x64x2048) ![0, 0, 0] S1x64x2048.size inb_S4x64x2048_S1x64x2048_0_0_0).toLoadRect (View.write (Elt F) mActv.view fv (kernelRun.sl.dma0_24 c fa) Finset.univ)) = arow fa 0 := arow_read c fa fv 0 0 rfl _
  unfold kernelRun.sl.r_9 kernelRun.sl.r_8
  rw [load_S0, load_S1, load_S2, load_S3, load_S4, load_S5, load_S6, load_S7, load_S8]
  rw [r_7_eq, ha]
  rfl

/-- Row 0 of the result the run finds. -/
theorem row0_eq (i : S4x64x2048.Idx) (hi : (i 0).val = 0) :
    (kernelRun c x0 x1 x2 x3 x4 x5 x6 x7 x8 fa fh fr fv fo fg).1.1 i = outAll x0 x1 x2 x3 x4 x5 x6 x7 x8 fa fh i := by
  refine (row_landed c fo fg 0 (by decide) _ _ _ _ _ _ i hi).trans ?_
  have hb : i 0 = (0 : Fin 4) := Fin.ext hi
  unfold outAll
  rw [hb]
  exact congrFun (pay_row0 c x0 x1 x2 x3 x4 x5 x6 x7 x8 fa fh fr fv) _

theorem r_17_eq : kernelRun.sl.r_17 c fh fr = pooled7 fh 1 := by
  unfold kernelRun.sl.r_17 kernelRun.sl.r_16 kernelRun.sl.r_15 kernelRun.sl.r_14 kernelRun.sl.r_13 kernelRun.sl.r_12 kernelRun.sl.r_11 kernelRun.sl.r_10
  rw [v475_eq, v503_eq, v532_eq, v561_eq, v590_eq, v619_eq, v648_eq]; rfl

theorem pay_row1 : k0_pay26 kernelRun.sl.v144 kernelRun.sl.v145 (kernelRun.sl.r_20 c x1 x2 x3 x4 x5 x6 x7 fh fr) (kernelRun.sl.r_21 c x1 x2 x3 x4 x5 x6 x7 fh fr) (kernelRun.sl.r_22 c x1 x2 x3 x4 x5 x6 x7 fh fr) (View.readAt (Elt F) mS8.view (Rect.unit (s := S1x64) ![0, 0] S1x64.size inb_S1x64_S1x64_0_0).toLoadRect x8) (View.readAt (Elt F) mS0.view (Rect.unit (s := S64x64) ![0, 0] S64x64.size inb_S64x64_S64x64_0_0).toLoadRect x0) (View.readAt (Elt F) mActv.view (Rect.unit (s := S4x64x2048) ![1, 0, 0] S1x64x2048.size inb_S4x64x2048_S1x64x2048_1_0_0).toLoadRect (View.write (Elt F) mActv.view fv (kernelRun.sl.dma0_24 c fa) Finset.univ)) = outRow x0 x1 x2 x3 x4 x5 x6 x7 x8 fa fh 1 := by
  have ha : (View.readAt (Elt F) mActv.view (Rect.unit (s := S4x64x2048) ![1, 0, 0] S1x64x2048.size inb_S4x64x2048_S1x64x2048_1_0_0).toLoadRect (View.write (Elt F) mActv.view fv (kernelRun.sl.dma0_24 c fa) Finset.univ)) = arow fa 1 := arow_read c fa fv 1 1 rfl _
  unfold kernelRun.sl.r_22 kernelRun.sl.r_21 kernelRun.sl.r_20 kernelRun.sl.r_19 kernelRun.sl.r_18 kernelRun.sl.cst_790
  rw [load_S0, load_S1, load_S2, load_S3, load_S4, load_S5, load_S6, load_S7, load_S8]
  rw [r_17_eq, v677_eq, ha]
  rfl

/-- Row 1 of the result the run finds. -/
theorem row1_eq (i : S4x64x2048.Idx) (hi : (i 0).val = 1) :
    (kernelRun c x0 x1 x2 x3 x4 x5 x6 x7 x8 fa fh fr fv fo fg).1.2.1 i = outAll x0 x1 x2 x3 x4 x5 x6 x7 x8 fa fh i := by
  refine (row_landed c fo fg 1 (by decide) _ _ _ _ _ _ i hi).trans ?_
  have hb : i 0 = (1 : Fin 4) := Fin.ext hi
  unfold outAll
  rw [hb]
  exact congrFun (pay_row1 c x0 x1 x2 x3 x4 x5 x6 x7 x8 fa fh fr fv) _

theorem r_28_eq : kernelRun.sl.r_28 c fh fr = pooled7 fh 2 := by
  unfold kernelRun.sl.r_28 kernelRun.sl.r_27 kernelRun.sl.r_26 kernelRun.sl.r_25 kernelRun.sl.r_24 kernelRun.sl.r_23
  rw [v792_eq, v820_eq, v849_eq, v878_eq, v907_eq, v924_eq, v941_eq]; rfl

theorem pay_row2 : k0_pay37 (kernelRun.sl.r_31 c x0 x1 x2 x3 x4 x5 x6 x7 x8 fa fh fr fv) = outRow x0 x1 x2 x3 x4 x5 x6 x7 x8 fa fh 2 := by
  have ha : (View.readAt (Elt F) mActv.view (Rect.unit (s := S4x64x2048) ![2, 0, 0] S1x64x2048.size inb_S4x64x2048_S1x64x2048_2_0_0).toLoadRect (View.write (Elt F) mActv.view fv (kernelRun.sl.dma0_24 c fa) Finset.univ)) = arow fa 2 := arow_read c fa fv 2 2 rfl _
  unfold kernelRun.sl.r_31 kernelRun.sl.r_30 kernelRun.sl.r_29
  rw [load_S0, load_S1, load_S2, load_S3, load_S4, load_S5, load_S6, load_S7, load_S8]
  rw [r_28_eq, v958_eq, ha]
  rfl

/-- Row 2 of the result the run finds. -/
theorem row2_eq (i : S4x64x2048.Idx) (hi : (i 0).val = 2) :
    (kernelRun c x0 x1 x2 x3 x4 x5 x6 x7 x8 fa fh fr fv fo fg).1.2.2.1 i = outAll x0 x1 x2 x3 x4 x5 x6 x7 x8 fa fh i := by
  refine (row_landed c fo fg 2 (by decide) _ _ _ _ _ _ i hi).trans ?_
  have hb : i 0 = (2 : Fin 4) := Fin.ext hi
  unfold outAll
  rw [hb]
  exact congrFun (pay_row2 c x0 x1 x2 x3 x4 x5 x6 x7 x8 fa fh fr fv) _

theorem r_36_eq : kernelRun.sl.r_36 c fh fr = pooled7 fh 3 := by
  unfold kernelRun.sl.r_36 kernelRun.sl.r_35 kernelRun.sl.r_34 kernelRun.sl.r_33 kernelRun.sl.r_32
  rw [v1061_eq, v1077_eq, v1094_eq, v1111_eq, v1128_eq, v1145_eq, v1162_eq]; rfl

theorem pay_row3 : k0_pay48 (kernelRun.sl.r_40 c x1 x2 x3 x4 x5 x6 x7 fh fr) (View.readAt (Elt F) mS8.view (Rect.unit (s := S1x64) ![0, 0] S1x64.size inb_S1x64_S1x64_0_0).toLoadRect x8) (View.readAt (Elt F) mS0.view (Rect.unit (s := S64x64) ![0, 0] S64x64.size inb_S64x64_S64x64_0_0).toLoadRect x0) (View.readAt (Elt F) mActv.view (Rect.unit (s := S4x64x2048) ![3, 0, 0] S1x64x2048.size inb_S4x64x2048_S1x64x2048_3_0_0).toLoadRect (View.write (Elt F) mActv.view fv (kernelRun.sl.dma0_24 c fa) Finset.univ)) = outRow x0 x1 x2 x3 x4 x5 x6 x7 x8 fa fh 3 := by
  have ha : (View.readAt (Elt F) mActv.view (Rect.unit (s := S4x64x2048) ![3, 0, 0] S1x64x2048.size inb_S4x64x2048_S1x64x2048_3_0_0).toLoadRect (View.write (Elt F) mActv.view fv (kernelRun.sl.dma0_24 c fa) Finset.univ)) = arow fa 3 := arow_read c fa fv 3 3 rfl _
  unfold kernelRun.sl.r_40 kernelRun.sl.r_39 kernelRun.sl.r_38 kernelRun.sl.r_37
  rw [load_S0, load_S1, load_S2, load_S3, load_S4, load_S5, load_S6, load_S7, load_S8]
  rw [r_36_eq, v1179_eq, ha]
  rfl

/-- Row 3 of the result the run finds. -/
theorem row3_eq (i : S4x64x2048.Idx) (hi : (i 0).val = 3) :
    (kernelRun c x0 x1 x2 x3 x4 x5 x6 x7 x8 fa fh fr fv fo fg).1.2.2.2 i = outAll x0 x1 x2 x3 x4 x5 x6 x7 x8 fa fh i := by
  refine (row_landed c fo fg 3 (by decide) _ _ _ _ _ _ i hi).trans ?_
  have hb : i 0 = (3 : Fin 4) := Fin.ext hi
  unfold outAll
  rw [hb]
  exact congrFun (pay_row3 c x0 x1 x2 x3 x4 x5 x6 x7 x8 fa fh fr fv) _

end Cert.KernelIdeal.Hand

end
-- ==== Proof.KernelIdealFrame.lean ====
module

public import proofs.«01_k».proof.Proof.Gen.KernelIdeal.Skeleton
public import proofs.«01_k».proof.Proof.Gen.KernelIdeal.Frame
public import Idealize.ShloMosaic.Lib.Pipeline.FrameSuffixV
public import Idealize.ShloMosaic.Lib.Transfers
public import Idealize.ShloMosaic.Lib.Tactic
public import Idealize.ShloMosaic.Lib.ValueLayout
public import Idealize.ShloMosaic.Lib.ViewIndex
public import proofs.«01_k».proof.Proof.KernelIdealRows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## A buffer's leading rows: split and joined -/

/-- An index lies in leading row `k` of three axes exactly when its first coordinate is `k`. -/
theorem mem_row {n a d : ℕ} (k : ℕ) (hk : ∀ x, (![k, 0, 0] : Fin 3 → ℕ) x + (![1, a, d] : Fin 3 → ℕ) x ≤ (⟨3, ![n, a, d]⟩ : Shape).size x)
    (i : (⟨3, ![n, a, d]⟩ : Shape).Idx) : i ∈ (Rect.unit (s := ⟨3, ![n, a, d]⟩) ![k, 0, 0] ![1, a, d] hk).set ↔ (i 0).val = k := by
  rw [LoadRect.mem_set]
  constructor
  · intro h
    obtain ⟨j, hj, e⟩ := h 0
    have hj' : j < 1 := hj
    have e' : (i 0).val = k + 1 * j := e
    omega
  · intro h x
    match x with
    | ⟨0, _⟩ => exact ⟨0, Nat.one_pos, by show (i 0).val = k + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

theorem inb_row {n a d : ℕ} (k : Fin n) : ∀ x, (![k.val, 0, 0] : Fin 3 → ℕ) x + (![1, a, d] : Fin 3 → ℕ) x ≤ (⟨3, ![n, a, d]⟩ : Shape).size x := fun x =>
  match x with
  | ⟨0, _⟩ => by have := k.isLt; show k.val + 1 ≤ n; omega
  | ⟨1, _⟩ => by show 0 + a ≤ a; omega
  | ⟨2, _⟩ => by show 0 + d ≤ d; omega

/-- Leading row `k` of a buffer of three axes. -/
abbrev rw3 {n a d : ℕ} (k : Fin n) : Finset (⟨3, ![n, a, d]⟩ : Shape).Idx :=
  (Rect.unit (s := ⟨3, ![n, a, d]⟩) ![k.val, 0, 0] ![1, a, d] (inb_row k)).set

theorem rw3_disjoint {n a d : ℕ} (k k' : Fin n) (h : k ≠ k') : Disjoint (rw3 (a := a) (d := d) k) (rw3 k') := by
  rw [Finset.disjoint_left]
  intro i h1 h2
  exact h (Fin.ext (((mem_row _ _ _).mp h1).symm.trans ((mem_row _ _ _).mp h2)))

theorem rw3_cover {n a d : ℕ} : Finset.univ.biUnion (rw3 (n := n) (a := a) (d := d)) = Finset.univ := by
  ext i
  simp only [Finset.mem_biUnion, Finset.mem_univ, true_and, iff_true]
  exact ⟨i 0, (mem_row _ _ _).mpr rfl⟩

section Split
variable (c : Dev nD)

theorem setOn_whole {b : Ref sig .tc} (S : Finset b.ty.shape.Idx) : (View.whole b).setOn S = S := by
  ext i
  constructor
  · intro h
    obtain ⟨x, hx, rfl⟩ := Finset.mem_map.mp h
    exact hx
  · intro h
    exact Finset.mem_map.mpr ⟨i, h, rfl⟩

/-- `mRing` held whole is its 12 leading rows held apart; -/
theorem ring_split (f : Bf (F := F) c mRing) : (pt c mRing f : sProp 𝕄) = iprop(ptR c mRing rR0 f
      ∗ ptR c mRing rR1 f
      ∗ ptR c mRing rR2 f
      ∗ ptR c mRing rR3 f
      ∗ ptR c mRing rR4 f
      ∗ ptR c mRing rR5 f
      ∗ ptR c mRing rR6 f
      ∗ ptR c mRing rR7 f
      ∗ ptR c mRing rR8 f
      ∗ ptR c mRing rR9 f
      ∗ ptR c mRing rR10 f
      ∗ ptR c mRing rR11 f) := by
  have h := Ring.pointsTo_blocks (Ix := Unit) (Name := ℕ) (U := Pipeline.UD sig nD τ) (Lvl := ℕ) (Val := Elt F)
    (ℓ := mRing.view.loc (c : Thread nD τ)) (q := fullShare) (fun k : Fin 12 => mRing.view.setOn (rw3 (n := 12) (a := 256) (d := 2048) k))
    (fun k k' hk => (Finset.disjoint_map _).mpr (rw3_disjoint k k' hk))
    (by
      refine Eq.trans ?_ (rw3_cover (n := 12) (a := 256) (d := 2048))
      exact congrArg (fun g => Finset.univ.biUnion g) (funext fun k => setOn_whole _)) f
  refine h.trans ?_
  rw [BI.bigSep_univ_eq_bigSepL [0, 1, 2, 3, 4, 5, 6, 7, 8, 9, 10, 11] (by decide) (by decide)]
  rfl

/-- and the rows, each at some contents, join back to it at some contents. -/
theorem ring_join (f₀ : Bf (F := F) c mRing) : iprop((∃ f, ptR c mRing rR0 f)
      ∗ (∃ f, ptR c mRing rR1 f)
      ∗ (∃ f, ptR c mRing rR2 f)
      ∗ (∃ f, ptR c mRing rR3 f)
      ∗ (∃ f, ptR c mRing rR4 f)
      ∗ (∃ f, ptR c mRing rR5 f)
      ∗ (∃ f, ptR c mRing rR6 f)
      ∗ (∃ f, ptR c mRing rR7 f)
      ∗ (∃ f, ptR c mRing rR8 f)
      ∗ (∃ f, ptR c mRing rR9 f)
      ∗ (∃ f, ptR c mRing rR10 f)
      ∗ (∃ f, ptR c mRing rR11 f)) ⊢ (iprop(∃ f, pt c mRing f) : sProp 𝕄) := by
  have h := Ring.pointsTo_blocks_join_exists (Ix := Unit) (Name := ℕ) (U := Pipeline.UD sig nD τ) (Lvl := ℕ) (Val := Elt F)
    (ℓ := mRing.view.loc (c : Thread nD τ)) (q := fullShare) (fun k : Fin 12 => mRing.view.setOn (rw3 (n := 12) (a := 256) (d := 2048) k))
    (fun k k' hk => (Finset.disjoint_map _).mpr (rw3_disjoint k k' hk))
    (by
      refine Eq.trans ?_ (rw3_cover (n := 12) (a := 256) (d := 2048))
      exact congrArg (fun g => Finset.univ.biUnion g) (funext fun k => setOn_whole _)) f₀
  rw [BI.bigSep_univ_eq_bigSepL [0, 1, 2, 3, 4, 5, 6, 7, 8, 9, 10, 11] (by decide) (by decide)] at h
  exact h

/-- `mOutv` held whole is its 4 leading rows held apart; -/
theorem outv_split (f : Bf (F := F) c mOutv) : (pt c mOutv f : sProp 𝕄) = iprop(ptR c mOutv rO0 f
      ∗ ptR c mOutv rO1 f
      ∗ ptR c mOutv rO2 f
      ∗ ptR c mOutv rO3 f) := by
  have h := Ring.pointsTo_blocks (Ix := Unit) (Name := ℕ) (U := Pipeline.UD sig nD τ) (Lvl := ℕ) (Val := Elt F)
    (ℓ := mOutv.view.loc (c : Thread nD τ)) (q := fullShare) (fun k : Fin 4 => mOutv.view.setOn (rw3 (n := 4) (a := 64) (d := 2048) k))
    (fun k k' hk => (Finset.disjoint_map _).mpr (rw3_disjoint k k' hk))
    (by
      refine Eq.trans ?_ (rw3_cover (n := 4) (a := 64) (d := 2048))
      exact congrArg (fun g => Finset.univ.biUnion g) (funext fun k => setOn_whole _)) f
  refine h.trans ?_
  rw [BI.bigSep_univ_eq_bigSepL [0, 1, 2, 3] (by decide) (by decide)]
  rfl

/-- and the rows, each at some contents, join back to it at some contents. -/
theorem outv_join (f₀ : Bf (F := F) c mOutv) : iprop((∃ f, ptR c mOutv rO0 f)
      ∗ (∃ f, ptR c mOutv rO1 f)
      ∗ (∃ f, ptR c mOutv rO2 f)
      ∗ (∃ f, ptR c mOutv rO3 f)) ⊢ (iprop(∃ f, pt c mOutv f) : sProp 𝕄) := by
  have h := Ring.pointsTo_blocks_join_exists (Ix := Unit) (Name := ℕ) (U := Pipeline.UD sig nD τ) (Lvl := ℕ) (Val := Elt F)
    (ℓ := mOutv.view.loc (c : Thread nD τ)) (q := fullShare) (fun k : Fin 4 => mOutv.view.setOn (rw3 (n := 4) (a := 64) (d := 2048) k))
    (fun k k' hk => (Finset.disjoint_map _).mpr (rw3_disjoint k k' hk))
    (by
      refine Eq.trans ?_ (rw3_cover (n := 4) (a := 64) (d := 2048))
      exact congrArg (fun g => Finset.univ.biUnion g) (funext fun k => setOn_whole _)) f₀
  rw [BI.bigSep_univ_eq_bigSepL [0, 1, 2, 3] (by decide) (by decide)] at h
  exact h

/-- `mOut` held whole is its 4 leading rows held apart; -/
theorem out_split (f : Bf (F := F) c mOut) : (pt c mOut f : sProp 𝕄) = iprop(ptR c mOut rO0 f
      ∗ ptR c mOut rO1 f
      ∗ ptR c mOut rO2 f
      ∗ ptR c mOut rO3 f) := by
  have h := Ring.pointsTo_blocks (Ix := Unit) (Name := ℕ) (U := Pipeline.UD sig nD τ) (Lvl := ℕ) (Val := Elt F)
    (ℓ := mOut.view.loc (c : Thread nD τ)) (q := fullShare) (fun k : Fin 4 => mOut.view.setOn (rw3 (n := 4) (a := 64) (d := 2048) k))
    (fun k k' hk => (Finset.disjoint_map _).mpr (rw3_disjoint k k' hk))
    (by
      refine Eq.trans ?_ (rw3_cover (n := 4) (a := 64) (d := 2048))
      exact congrArg (fun g => Finset.univ.biUnion g) (funext fun k => setOn_whole _)) f
  refine h.trans ?_
  rw [BI.bigSep_univ_eq_bigSepL [0, 1, 2, 3] (by decide) (by decide)]
  rfl

/-- and the rows, each at some contents, join back to it at some contents. -/
theorem out_join (f₀ : Bf (F := F) c mOut) : iprop((∃ f, ptR c mOut rO0 f)
      ∗ (∃ f, ptR c mOut rO1 f)
      ∗ (∃ f, ptR c mOut rO2 f)
      ∗ (∃ f, ptR c mOut rO3 f)) ⊢ (iprop(∃ f, pt c mOut f) : sProp 𝕄) := by
  have h := Ring.pointsTo_blocks_join_exists (Ix := Unit) (Name := ℕ) (U := Pipeline.UD sig nD τ) (Lvl := ℕ) (Val := Elt F)
    (ℓ := mOut.view.loc (c : Thread nD τ)) (q := fullShare) (fun k : Fin 4 => mOut.view.setOn (rw3 (n := 4) (a := 64) (d := 2048) k))
    (fun k k' hk => (Finset.disjoint_map _).mpr (rw3_disjoint k k' hk))
    (by
      refine Eq.trans ?_ (rw3_cover (n := 4) (a := 64) (d := 2048))
      exact congrArg (fun g => Finset.univ.biUnion g) (funext fun k => setOn_whole _)) f₀
  rw [BI.bigSep_univ_eq_bigSepL [0, 1, 2, 3] (by decide) (by decide)] at h
  exact h

/-- What is left of the hidden states beside the transfers' read tokens. -/
abbrev hidRest (f : Bf (F := F) c mHid) : sProp 𝕄 :=
  iprop(ptT c mHid 0 f ∗ ptT c mHid 1 f ∗ ptT c mHid 2 f ∗ ptT c mHid 3 f ∗ ptT c mHid 4 f ∗ ptT c mHid 5 f ∗ ptT c mHid 6 f ∗ ptT c mHid 7 f ∗ ptT c mHid 8 f)

/-- The hidden states held whole are the transfers' read tokens and what is left beside them. -/
theorem hid_toks (f : Bf (F := F) c mHid) : (pt c mHid f : sProp 𝕄) ⊣⊢ iprop((mHid.view.loc (c : Thread nD τ) ↦{Transfers.shareDrop fullShare 33} f) ∗ ptT c mHid 9 f
      ∗ ptT c mHid 10 f
      ∗ ptT c mHid 11 f
      ∗ ptT c mHid 12 f
      ∗ ptT c mHid 13 f
      ∗ ptT c mHid 14 f
      ∗ ptT c mHid 15 f
      ∗ ptT c mHid 16 f
      ∗ ptT c mHid 17 f
      ∗ ptT c mHid 18 f
      ∗ ptT c mHid 19 f
      ∗ ptT c mHid 20 f
      ∗ ptT c mHid 21 f
      ∗ ptT c mHid 22 f
      ∗ ptT c mHid 23 f
      ∗ ptT c mHid 24 f
      ∗ ptT c mHid 25 f
      ∗ ptT c mHid 26 f
      ∗ ptT c mHid 27 f
      ∗ ptT c mHid 28 f
      ∗ ptT c mHid 29 f
      ∗ ptT c mHid 30 f
      ∗ ptT c mHid 31 f
      ∗ ptT c mHid 32 f
      ∗ hidRest c f) := by
  have h := Transfers.pointsTo_toks_range (Ix := Unit) (Name := ℕ) (U := Pipeline.UD sig nD τ) (Lvl := ℕ) (Val := Elt F)
    (ℓ := mHid.view.loc (c : Thread nD τ)) (S := Finset.univ) (f := f) fullShare 33
  rw [BI.bigSep_eq_bigSepL_of_eq ([9, 10, 11, 12, 13, 14, 15, 16, 17, 18, 19, 20, 21, 22, 23, 24, 25, 26, 27, 28, 29, 30, 31, 32, 0, 1, 2, 3, 4, 5, 6, 7, 8] : List ℕ) (by decide) (by decide)] at h
  exact h

/-- A row of the result held at one contents is held at any contents that agree on the row. -/
theorem row_congr (k : ℕ) (hk : ∀ x, (![k, 0, 0] : Fin 3 → ℕ) x + S1x64x2048.size x ≤ S4x64x2048.size x) (f g : Bf (F := F) c mOut)
    (h : ∀ i : S4x64x2048.Idx, (i 0).val = k → f i = g i) :
    (ptR c mOut (Rect.unit (s := S4x64x2048) ![k, 0, 0] S1x64x2048.size hk) f : sProp 𝕄)
      = ptR c mOut (Rect.unit (s := S4x64x2048) ![k, 0, 0] S1x64x2048.size hk) g := by
  refine pointsTo_congr ?_
  intro i hi
  obtain ⟨x, hx, rfl⟩ := Finset.mem_map.mp hi
  exact h x ((mem_row (n := 4) (a := 64) (d := 2048) k hk x).mp hx)

end Split

/-! ## The launch -/

/-- The body's transfer cells: the ring's twenty-four, the activations' one, the result's four. -/
abbrev osem0 : Fin 29 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37] : Fin 29 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ cell c 33 ∗ cell c 34 ∗ cell c 35 ∗ cell c 36 ∗ cell c 37) := by
  rw [Pipeline.ownSems0_eq_of_list c osem0 [0, 1, 2, 3, 4, 5, 6, 7, 8, 9, 10, 11, 12, 13, 14, 15, 16, 17, 18, 19, 20, 21, 22, 23, 24, 25, 26, 27, 28] (by decide) (by decide)]; rfl
/-- The operands the body's transfers read, -/
def H0 : Finset (Ref sig .tc) := {main_arg1, main_v0}
/-- and the result its transfers write. -/
def R0 : Finset (Ref sig .tc) := {main_v8}
theorem H0_sub : H0 ⊆ Pipeline.restRefs sig spec0 := by decide
theorem R0_sub : R0 ⊆ Pipeline.restRefs sig spec0 \ H0 := by decide
theorem hbmPts0_eq (c : Dev nD) (V' : (b : Ref sig .tc) → Buf (Elt F) ((c : Thread nD τ).loc b)) :
    (bigSep H0 (fun b => ((c : Thread nD τ).loc b) ↦{fullShare} V' b) : sProp 𝕄)
      = iprop(pt c mHid (V' main_arg1) ∗ pt c mAct (V' main_v0)) := by
  rw [BI.bigSep_eq_bigSepL_of_eq [main_arg1, main_v0] (by decide) (by decide)]; rfl
theorem resPts0_eq (c : Dev nD) (G' : (b : Ref sig .tc) → Buf (Elt F) ((c : Thread nD τ).loc b)) :
    (bigSep R0 (fun b => ((c : Thread nD τ).loc b) ↦{fullShare} G' b) : sProp 𝕄) = pt c mOut (G' main_v8) := by
  rw [BI.bigSep_eq_bigSepL_of_eq [main_v8] (by decide) (by decide)]; rfl

/-- The result's contents at the end, from the region's entry contents. -/
def outAt (c : Dev nD) : S4x64x2048.Idx → Elt F .f32 :=
  outAll (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (V m c main_v0) (V m c main_arg1)

/-- Every buffer at the region's end: as the region found it, the result at `outAt`. -/
def G (c : Dev nD) (b : Ref sig .tc) : Buf (Elt F) ((c : Thread nD τ).loc b) :=
  Function.update (β := fun b => Buf (Elt F) ((c : Thread nD τ).loc b)) (V m c) main_v8 (outAt m c) b
theorem G_v8 (c : Dev nD) : G m c main_v8 = outAt m c := by unfold G; exact Function.update_self ..

/-- The proof data of the one pipeline on core `c`: the arrays as the region finds them, each staged block left in place, the
    result untouched before the one point and complete after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ p := Pipeline.ΦDRV osem0 spec0 H0 R0 (V m) (if p.val = 0 then V m else G m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

theorem PhiDRV0_eq (c : Dev nD) (G' : (c : Dev nD) → (b : Ref sig .tc) → Buf (Elt F) ((c : Thread nD τ).loc b)) :
    (Pipeline.ΦDRV osem0 spec0 H0 R0 (V m) G' c : sProp 𝕄)
      = iprop(iprop((∃ f, pt c mRing f) ∗ (∃ f, pt c mActv f) ∗ (∃ f, pt c mOutv f))
          ∗ iprop(cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ cell c 33 ∗ cell c 34 ∗ cell c 35 ∗ cell c 36 ∗ cell c 37)
          ∗ iprop(pt c mHid (V m c main_arg1) ∗ pt c mAct (V m c main_v0))
          ∗ pt c mOut (G' c main_v8)) := by
  unfold Pipeline.ΦDRV
  rw [scopedRest0_eq, ownSems00_eq, hbmPts0_eq, resPts0_eq]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-- The staged operands of the one point, as whole buffers. -/
theorem stage_eq (t : Fin cfg0.N) : st0_0 t = mS0 ∧ st0_1 t = mS1 ∧ st0_2 t = mS2 ∧ st0_3 t = mS3 ∧ st0_4 t = mS4 ∧ st0_5 t = mS5 ∧ st0_6 t = mS6 ∧ st0_7 t = mS7 ∧ st0_8 t = mS8 := by
  refine ⟨?_, ?_, ?_, ?_, ?_, ?_, ?_, ?_, ?_⟩ <;> rfl

/-- The body at the one point: from the staged blocks, the scratch, the transfer cells, the operands left in HBM and the
    result as the region found them, to the same with the result at `outAt`. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before_0, before_1, before_2, before_3, before_4, before_5, before_6, before_7, before_8, after_0, after_1, after_2, after_3, after_4, after_5, after_6, after_7, after_8]
  rw [show (dats m 0 c).Φ t0_0.succ = Pipeline.ΦDRV osem0 spec0 H0 R0 (V m) (G m) c from rfl,
    show (dats m 0 c).Φ t0_0.castSucc = Pipeline.ΦDRV osem0 spec0 H0 R0 (V m) (V m) c from rfl, PhiDRV0_eq, PhiDRV0_eq, G_v8]
  unfold Dat.owesAt Pipeline.owesWithin
  rw [show (dats m 0 c).owed t0_0.castSucc = 0 from rfl, show (dats m 0 c).owed t0_0.succ = 0 from rfl]
  iintro ⟨⟨⟨⟨%fr, HR⟩, ⟨%fv, HAV⟩, ⟨%fo, HO⟩⟩, ⟨Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37⟩, ⟨HH, HA⟩, HG⟩, ⟨%W, -, HW⟩, ⟨%d0, HS0⟩, ⟨%d1, HS1⟩, ⟨%d2, HS2⟩, ⟨%d3, HS3⟩, ⟨%d4, HS4⟩, ⟨%d5, HS5⟩, ⟨%d6, HS6⟩, ⟨%d7, HS7⟩, ⟨%d8, HS8⟩⟩
  ihave HS0 := (show owns (c : Thread nD τ) (st0_0 t0_0) fullShare (iblk m c 0 t0_0) ⊢ pt c mS0 (iblk m c 0 t0_0) from by
    rw [show st0_0 t0_0 = mS0 from rfl]; erw [owns_whole]) $$ HS0
  ihave HS1 := (show owns (c : Thread nD τ) (st0_1 t0_0) fullShare (iblk m c 1 t0_0) ⊢ pt c mS1 (iblk m c 1 t0_0) from by
    rw [show st0_1 t0_0 = mS1 from rfl]; erw [owns_whole]) $$ HS1
  ihave HS2 := (show owns (c : Thread nD τ) (st0_2 t0_0) fullShare (iblk m c 2 t0_0) ⊢ pt c mS2 (iblk m c 2 t0_0) from by
    rw [show st0_2 t0_0 = mS2 from rfl]; erw [owns_whole]) $$ HS2
  ihave HS3 := (show owns (c : Thread nD τ) (st0_3 t0_0) fullShare (iblk m c 3 t0_0) ⊢ pt c mS3 (iblk m c 3 t0_0) from by
    rw [show st0_3 t0_0 = mS3 from rfl]; erw [owns_whole]) $$ HS3
  ihave HS4 := (show owns (c : Thread nD τ) (st0_4 t0_0) fullShare (iblk m c 4 t0_0) ⊢ pt c mS4 (iblk m c 4 t0_0) from by
    rw [show st0_4 t0_0 = mS4 from rfl]; erw [owns_whole]) $$ HS4
  ihave HS5 := (show owns (c : Thread nD τ) (st0_5 t0_0) fullShare (iblk m c 5 t0_0) ⊢ pt c mS5 (iblk m c 5 t0_0) from by
    rw [show st0_5 t0_0 = mS5 from rfl]; erw [owns_whole]) $$ HS5
  ihave HS6 := (show owns (c : Thread nD τ) (st0_6 t0_0) fullShare (iblk m c 6 t0_0) ⊢ pt c mS6 (iblk m c 6 t0_0) from by
    rw [show st0_6 t0_0 = mS6 from rfl]; erw [owns_whole]) $$ HS6
  ihave HS7 := (show owns (c : Thread nD τ) (st0_7 t0_0) fullShare (iblk m c 7 t0_0) ⊢ pt c mS7 (iblk m c 7 t0_0) from by
    rw [show st0_7 t0_0 = mS7 from rfl]; erw [owns_whole]) $$ HS7
  ihave HS8 := (show owns (c : Thread nD τ) (st0_8 t0_0) fullShare (iblk m c 8 t0_0) ⊢ pt c mS8 (iblk m c 8 t0_0) from by
    rw [show st0_8 t0_0 = mS8 from rfl]; erw [owns_whole]) $$ HS8
  ihave ⟨HD, Ht9, Ht10, Ht11, Ht12, Ht13, Ht14, Ht15, Ht16, Ht17, Ht18, Ht19, Ht20, Ht21, Ht22, Ht23, Ht24, Ht25, Ht26, Ht27, Ht28, Ht29, Ht30, Ht31, Ht32, HX⟩ := (hid_toks c (V m c main_arg1)).1 $$ HH
  ihave ⟨HR0, HR1, HR2, HR3, HR4, HR5, HR6, HR7, HR8, HR9, HR10, HR11⟩ := (BI.BIBase.Entails.of_eq (ring_split c fr)) $$ HR
  ihave ⟨HO0, HO1, HO2, HO3⟩ := (BI.BIBase.Entails.of_eq (outv_split c fo)) $$ HO
  ihave ⟨HG0, HG1, HG2, HG3⟩ := (BI.BIBase.Entails.of_eq (out_split c (V m c main_v8))) $$ HG
  iapply ((kernelRun c (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (V m c main_v0) (V m c main_arg1) fr fv fo (V m c main_v8)).2 W _)
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HA]; · iexact HA
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Ht27]; · iexact Ht27
  isplitl [Ht28]; · iexact Ht28
  isplitl [Ht29]; · iexact Ht29
  isplitl [Ht30]; · iexact Ht30
  isplitl [Ht31]; · iexact Ht31
  isplitl [Ht32]; · iexact Ht32
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HAV]; · iexact HAV
  isplitl [HO0]; · iexact HO0
  isplitl [HO1]; · iexact HO1
  isplitl [HO2]; · iexact HO2
  isplitl [HO3]; · iexact HO3
  isplitl [HG0]; · iexact HG0
  isplitl [HG1]; · iexact HG1
  isplitl [HG2]; · iexact HG2
  isplitl [HG3]; · iexact HG3
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Hc26]; · iexact Hc26
  isplitl [Hc27]; · iexact Hc27
  isplitl [Hc28]; · iexact Hc28
  isplitl [Hc29]; · iexact Hc29
  isplitl [Hc30]; · iexact Hc30
  isplitl [Hc31]; · iexact Hc31
  isplitl [Hc32]; · iexact Hc32
  isplitl [Hc33]; · iexact Hc33
  isplitl [Hc34]; · iexact Hc34
  isplitl [Hc35]; · iexact Hc35
  isplitl [Hc36]; · iexact Hc36
  isplitl [Hc37]; · iexact Hc37
  isplitl [HW]; · iexact HW
  iintro ⟨HS0, HS1, HS2, HS3, HS4, HS5, HS6, HS7, HS8, HA, Ht9, Ht10, Ht11, Ht12, Ht13, Ht14, Ht15, Ht16, Ht17, Ht18, Ht19, Ht20, Ht21, Ht22, Ht23, Ht24, Ht25, Ht26, Ht27, Ht28, Ht29, Ht30, Ht31, Ht32, HR0, HR1, HR2, HR3, HR4, HR5, HR6, HR7, HR8, HR9, HR10, HR11, HAV, HO0, HO1, HO2, HO3, HG0, HG1, HG2, HG3, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, ⟨%W', HW'⟩⟩
  ihave HG0 := (BI.BIBase.Entails.of_eq (row_congr c 0 _ _ (outAt m c) (fun i hi => row0_eq c (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (V m c main_v0) (V m c main_arg1) fr fv fo (V m c main_v8) i hi))) $$ HG0
  ihave HG1 := (BI.BIBase.Entails.of_eq (row_congr c 1 _ _ (outAt m c) (fun i hi => row1_eq c (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (V m c main_v0) (V m c main_arg1) fr fv fo (V m c main_v8) i hi))) $$ HG1
  ihave HG2 := (BI.BIBase.Entails.of_eq (row_congr c 2 _ _ (outAt m c) (fun i hi => row2_eq c (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (V m c main_v0) (V m c main_arg1) fr fv fo (V m c main_v8) i hi))) $$ HG2
  ihave HG3 := (BI.BIBase.Entails.of_eq (row_congr c 3 _ _ (outAt m c) (fun i hi => row3_eq c (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (V m c main_v0) (V m c main_arg1) fr fv fo (V m c main_v8) i hi))) $$ HG3
  ihave HG := (BI.BIBase.Entails.of_eq (out_split c (outAt m c)).symm) $$ [HG0 HG1 HG2 HG3]
  · isplitl [HG0]; · iexact HG0
    isplitl [HG1]; · iexact HG1
    isplitl [HG2]; · iexact HG2
    iexact HG3
  ihave HR := (ring_join c fr) $$ [HR0 HR1 HR2 HR3 HR4 HR5 HR6 HR7 HR8 HR9 HR10 HR11]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    iexact HR11
  ihave HO := (outv_join c fo) $$ [HO0 HO1 HO2 HO3]
  · isplitl [HO0]; · iexact HO0
    isplitl [HO1]; · iexact HO1
    isplitl [HO2]; · iexact HO2
    iexact HO3
  ihave HH := (hid_toks c (V m c main_arg1)).2 $$ [HD Ht9 Ht10 Ht11 Ht12 Ht13 Ht14 Ht15 Ht16 Ht17 Ht18 Ht19 Ht20 Ht21 Ht22 Ht23 Ht24 Ht25 Ht26 Ht27 Ht28 Ht29 Ht30 Ht31 Ht32 HX]
  · isplitl [HD]; · iexact HD
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    iexact HX
  isplitl [HR HAV HO Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37 HH HA HG]
  · isplitl [HR HAV HO]
    · isplitl [HR]; · iexact HR
      isplitl [HAV]; · iexact HAV
      iexact HO
    isplitl [Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37]
    · isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      isplitl [Hc26]; · iexact Hc26
      isplitl [Hc27]; · iexact Hc27
      isplitl [Hc28]; · iexact Hc28
      isplitl [Hc29]; · iexact Hc29
      isplitl [Hc30]; · iexact Hc30
      isplitl [Hc31]; · iexact Hc31
      isplitl [Hc32]; · iexact Hc32
      isplitl [Hc33]; · iexact Hc33
      isplitl [Hc34]; · iexact Hc34
      isplitl [Hc35]; · iexact Hc35
      isplitl [Hc36]; · iexact Hc36
      iexact Hc37
    isplitl [HH HA]
    · isplitl [HH]; · iexact HH
      iexact HA
    iexact HG
  isplitl [HW']
  · iexists W'; isplitr; · ipureintro; exact fun _ _ => Or.inl trivial
    iexact HW'
  isplitl [HS0]; · iapply (show pt c mS0 (iblk m c 0 t0_0) ⊢ owns (c : Thread nD τ) (st0_0 t0_0) fullShare (iblk m c 0 t0_0) from by
    rw [show st0_0 t0_0 = mS0 from rfl]; erw [owns_whole]) $$ HS0
  isplitl [HS1]; · iapply (show pt c mS1 (iblk m c 1 t0_0) ⊢ owns (c : Thread nD τ) (st0_1 t0_0) fullShare (iblk m c 1 t0_0) from by
    rw [show st0_1 t0_0 = mS1 from rfl]; erw [owns_whole]) $$ HS1
  isplitl [HS2]; · iapply (show pt c mS2 (iblk m c 2 t0_0) ⊢ owns (c : Thread nD τ) (st0_2 t0_0) fullShare (iblk m c 2 t0_0) from by
    rw [show st0_2 t0_0 = mS2 from rfl]; erw [owns_whole]) $$ HS2
  isplitl [HS3]; · iapply (show pt c mS3 (iblk m c 3 t0_0) ⊢ owns (c : Thread nD τ) (st0_3 t0_0) fullShare (iblk m c 3 t0_0) from by
    rw [show st0_3 t0_0 = mS3 from rfl]; erw [owns_whole]) $$ HS3
  isplitl [HS4]; · iapply (show pt c mS4 (iblk m c 4 t0_0) ⊢ owns (c : Thread nD τ) (st0_4 t0_0) fullShare (iblk m c 4 t0_0) from by
    rw [show st0_4 t0_0 = mS4 from rfl]; erw [owns_whole]) $$ HS4
  isplitl [HS5]; · iapply (show pt c mS5 (iblk m c 5 t0_0) ⊢ owns (c : Thread nD τ) (st0_5 t0_0) fullShare (iblk m c 5 t0_0) from by
    rw [show st0_5 t0_0 = mS5 from rfl]; erw [owns_whole]) $$ HS5
  isplitl [HS6]; · iapply (show pt c mS6 (iblk m c 6 t0_0) ⊢ owns (c : Thread nD τ) (st0_6 t0_0) fullShare (iblk m c 6 t0_0) from by
    rw [show st0_6 t0_0 = mS6 from rfl]; erw [owns_whole]) $$ HS6
  isplitl [HS7]; · iapply (show pt c mS7 (iblk m c 7 t0_0) ⊢ owns (c : Thread nD τ) (st0_7 t0_0) fullShare (iblk m c 7 t0_0) from by
    rw [show st0_7 t0_0 = mS7 from rfl]; erw [owns_whole]) $$ HS7
  iapply (show pt c mS8 (iblk m c 8 t0_0) ⊢ owns (c : Thread nD τ) (st0_8 t0_0) fullShare (iblk m c 8 t0_0) from by
    rw [show st0_8 t0_0 = mS8 from rfl]; erw [owns_whole]) $$ HS8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
/-- @main is its host ops, the region, and the host ops after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1]
  (by simp only [List.Forall]; exact hostOps0_sub) (by simp only [List.Forall]; exact hostOps0_fresh) main_chain

/-- The contents the run leaves core `c`'s buffers at when the region is done. -/
abbrev Wend (c : Dev nD) : Valuation τ sig (Elt F) :=
  Pipeline.withArrays spec0 c (Pipeline.withR (V0 m c) R0 c (G m c)) fun w => (dats m 0 c).arrAt w cfg0.N

theorem Wend_of_ne (c : Dev nD) (b : Ref sig .tc) (hb : ∀ w, Pipeline.arrRef spec0 w ≠ b) (hR : b ∉ R0) :
    Wend m c (Proc.devRef .tc b) = V m c b :=
  (Pipeline.withArrays_of_ne spec0 c _ _ b hb).trans (Pipeline.withR_of_not_mem _ _ _ _ b hR)
theorem Wend_v8 (c : Dev nD) : Wend m c (Proc.devRef .tc main_v8) = outAt m c :=
  (Pipeline.withArrays_of_ne spec0 c _ _ main_v8 (by decide)).trans ((Pipeline.withR_of_mem _ _ _ _ main_v8 (by decide)).trans (G_v8 m c))

set_option backward.isDefEq.respectTransparency.types false in
/-- Every run ends with each staged array as the pipeline leaves it, every other buffer as the last host operations leave it,
    and every counter at zero. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after ([hostOps1] : List (List (HloOp τ sig (Elt F)))).flatten (Wend m c) (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m Variants.none) (hA := A_eq m) (hin := fun _ => .rfl) (hout := fun _ => .rfl) (hQ' := fun _ h => h)

theorem end_arg0 (c : Dev nD) : StableHlo.after ([hostOps1] : List (List (HloOp τ sig (Elt F)))).flatten (Wend m c) (Proc.devRef .tc main_arg0) = m ((c.tc : Thread nD τ).loc main_arg0) :=
  (StableHlo.after_of_forall_not_mem (b := Proc.devRef .tc main_arg0) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg0 (by decide) (by decide)).trans (V_main_arg0 m c))
theorem end_arg1 (c : Dev nD) : StableHlo.after ([hostOps1] : List (List (HloOp τ sig (Elt F)))).flatten (Wend m c) (Proc.devRef .tc main_arg1) = m ((c.tc : Thread nD τ).loc main_arg1) :=
  (StableHlo.after_of_forall_not_mem (b := Proc.devRef .tc main_arg1) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg1 (by decide) (by decide)).trans (V_main_arg1 m c))
theorem end_arg3 (c : Dev nD) : StableHlo.after ([hostOps1] : List (List (HloOp τ sig (Elt F)))).flatten (Wend m c) (Proc.devRef .tc main_arg3) = m ((c.tc : Thread nD τ).loc main_arg3) :=
  (StableHlo.after_of_forall_not_mem (b := Proc.devRef .tc main_arg3) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg3 (by decide) (by decide)).trans (V_main_arg3 m c))
theorem end_arg4 (c : Dev nD) : StableHlo.after ([hostOps1] : List (List (HloOp τ sig (Elt F)))).flatten (Wend m c) (Proc.devRef .tc main_arg4) = m ((c.tc : Thread nD τ).loc main_arg4) :=
  (StableHlo.after_of_forall_not_mem (b := Proc.devRef .tc main_arg4) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg4 (by decide) (by decide)).trans (V_main_arg4 m c))
theorem end_arg5 (c : Dev nD) : StableHlo.after ([hostOps1] : List (List (HloOp τ sig (Elt F)))).flatten (Wend m c) (Proc.devRef .tc main_arg5) = m ((c.tc : Thread nD τ).loc main_arg5) :=
  (StableHlo.after_of_forall_not_mem (b := Proc.devRef .tc main_arg5) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg5 (by decide) (by decide)).trans (V_main_arg5 m c))
theorem end_arg6 (c : Dev nD) : StableHlo.after ([hostOps1] : List (List (HloOp τ sig (Elt F)))).flatten (Wend m c) (Proc.devRef .tc main_arg6) = m ((c.tc : Thread nD τ).loc main_arg6) :=
  (StableHlo.after_of_forall_not_mem (b := Proc.devRef .tc main_arg6) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg6 (by decide) (by decide)).trans (V_main_arg6 m c))
theorem end_arg7 (c : Dev nD) : StableHlo.after ([hostOps1] : List (List (HloOp τ sig (Elt F)))).flatten (Wend m c) (Proc.devRef .tc main_arg7) = m ((c.tc : Thread nD τ).loc main_arg7) :=
  (StableHlo.after_of_forall_not_mem (b := Proc.devRef .tc main_arg7) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg7 (by decide) (by decide)).trans (V_main_arg7 m c))
theorem end_arg8 (c : Dev nD) : StableHlo.after ([hostOps1] : List (List (HloOp τ sig (Elt F)))).flatten (Wend m c) (Proc.devRef .tc main_arg8) = m ((c.tc : Thread nD τ).loc main_arg8) :=
  (StableHlo.after_of_forall_not_mem (b := Proc.devRef .tc main_arg8) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg8 (by decide) (by decide)).trans (V_main_arg8 m c))
theorem end_arg9 (c : Dev nD) : StableHlo.after ([hostOps1] : List (List (HloOp τ sig (Elt F)))).flatten (Wend m c) (Proc.devRef .tc main_arg9) = m ((c.tc : Thread nD τ).loc main_arg9) :=
  (StableHlo.after_of_forall_not_mem (b := Proc.devRef .tc main_arg9) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide)))).trans
    ((Wend_of_ne m c main_arg9 (by decide) (by decide)).trans (V_main_arg9 m c))

/-- The result array at the end: the region's result with its last two axes exchanged. -/
theorem end_v9 (c : Dev nD) : StableHlo.after ([hostOps1] : List (List (HloOp τ sig (Elt F)))).flatten (Wend m c) (Proc.devRef .tc main_v9)
    = transpose S4x2048x64 [0, 2, 1] (outAt m c) transposes_S4x64x2048_S4x2048x64_0_2_1 := by
  refine Eq.trans ?_ (congrArg (fun X => transpose S4x2048x64 [0, 2, 1] X transposes_S4x64x2048_S4x2048x64_0_2_1) (Wend_v8 m c))
  simp only [hostOps1, List.flatten_cons, List.flatten_nil, List.append_nil]
  after_results_simp

/-- Every run terminates with the result at `outAt` transposed, every argument unchanged and every counter at zero. -/
theorem run_value : θ_run defs (onTc (τ := τ) (main (F := F))) ⟨m, fun _ => 0, ρ⟩ (fun r => (∀ c : Dev nD,
      r.2.mem ((c.tc : Thread nD τ).loc main_v9) = transpose S4x2048x64 [0, 2, 1] (outAt m c) transposes_S4x64x2048_S4x2048x64_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨((h.1 c).2 main_v9 (by decide)).trans (end_v9 m c),
      ((h.1 c).2 main_arg0 (by decide)).trans (end_arg0 m c),
      ((h.1 c).2 main_arg1 (by decide)).trans (end_arg1 m c),
      ((h.1 c).1 1).trans (((dats m 0 c).arrAt_in 1 rfl cfg0.N).trans (V_main_arg2 m c)),
      ((h.1 c).2 main_arg3 (by decide)).trans (end_arg3 m c),
      ((h.1 c).2 main_arg4 (by decide)).trans (end_arg4 m c),
      ((h.1 c).2 main_arg5 (by decide)).trans (end_arg5 m c),
      ((h.1 c).2 main_arg6 (by decide)).trans (end_arg6 m c),
      ((h.1 c).2 main_arg7 (by decide)).trans (end_arg7 m c),
      ((h.1 c).2 main_arg8 (by decide)).trans (end_arg8 m c),
      ((h.1 c).2 main_arg9 (by decide)).trans (end_arg9 m c)⟩, h.2⟩) (run_main m ρ)

/-- Every run terminates with every argument unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h.1 c).2, h.2⟩) (run_value m ρ)

end Cert.KernelIdeal.Hand

end
-- ==== Proof.TopKMask.lean ====
/- The first positions of a stable descending sort, as a condition on each position's rank. -/
module
public import Idealize.ShloMosaic.Lib.SortPrefix
@[expose] public section

namespace Cert.TopK
open Idealize.ShloMosaic

variable {n : Nat} {α : Type} [LinearOrder α]

/-- Position `k` holds a greater key than position `k'`. -/
def gtB (x : Fin n → α) (k k' : Fin n) : Bool := decide (x k' < x k)

/-- Position `k` holds a greater key than position `k'`, or the same key at a lower position. -/
def tieB (x : Fin n → α) (k k' : Fin n) : Bool := decide (x k' < x k) || (decide (x k = x k') && decide (k < k'))

/-- Greater key first, lower position first among equal keys: a strict total order on the positions. -/
theorem tieB_total (x : Fin n → α) : StrictTotalBefore (tieB x) :=
  StrictTotalBefore.of_key_then_position (fun a b : α => decide (b < a)) x (fun a => by simp)
    (fun a b c hab hbc => by
      simp only [decide_eq_true_eq] at *
      exact hbc.trans hab)
    (fun a b => by
      simp only [decide_eq_true_eq]
      rcases lt_trichotomy a b with h | h | h
      · exact Or.inr (Or.inr h)
      · exact Or.inr (Or.inl h)
      · exact Or.inl h)

/-- On positions listed in increasing order a stable sort by the key alone is the sort by key and position. -/
theorem stableSort_gt_eq (x : Fin n → α) (l : List (Fin n)) (hl : l.Pairwise (· < ·)) :
    stableSort (gtB x) l = stableSort (tieB x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp only [gtB, tieB]
    rw [decide_eq_false (not_lt.2 hab.le), Bool.and_false, Bool.or_false]

/-- The same for the position a sort puts at each place. -/
theorem sortedFrom_gt_eq (x : Fin n → α) (p : Fin n) : sortedFrom (gtB x) p = sortedFrom (tieB x) p := by
  have h : sortPositions n (gtB x) = sortPositions n (tieB x) := stableSort_gt_eq x _ (List.pairwise_lt_finRange n)
  unfold sortedFrom
  simp only [List.get_eq_getElem, h, Fin.val_cast]

/-- The number of positions that come before `r`: a greater key, or an equal key at a lower position. -/
def rank (x : Fin n → α) (r : Fin n) : Nat :=
  (Finset.univ.filter fun j : Fin n => x r < x j ∨ (x j = x r ∧ j < r)).card

/-- Of two places of the sort the earlier holds the position that comes before. -/
theorem sortedFrom_mono (x : Fin n → α) {i j : Fin n} (h : i < j) :
    tieB x (sortedFrom (tieB x) i) (sortedFrom (tieB x) j) = true := by
  have hp := (tieB_total x).sorted_stableSort (List.finRange n)
  have hf : tieB x (sortedFrom (tieB x) j) (sortedFrom (tieB x) i) = false := by
    have := List.pairwise_iff_get.1 hp
    exact this (i.cast (length_sortPositions n (tieB x)).symm) (j.cast (length_sortPositions n (tieB x)).symm) h
  rcases (tieB_total x).total _ _ (fun e => h.ne (sortedFrom_injective (tieB x) e)) with q | q
  · exact q
  · rw [q] at hf
    cases hf

/-- The position at place `p` of the sort has rank `p`. -/
theorem rank_sortedFrom (x : Fin n → α) (p : Fin n) : rank x (sortedFrom (tieB x) p) = p.val := by
  have hset : (Finset.univ.filter fun j : Fin n => x (sortedFrom (tieB x) p) < x j ∨ (x j = x (sortedFrom (tieB x) p) ∧ j < sortedFrom (tieB x) p))
      = (Finset.Iio p).image (sortedFrom (tieB x)) := by
    ext j
    have hiff : (x (sortedFrom (tieB x) p) < x j ∨ (x j = x (sortedFrom (tieB x) p) ∧ j < sortedFrom (tieB x) p))
        ↔ tieB x j (sortedFrom (tieB x) p) = true := by
      simp [tieB]
    simp only [Finset.mem_filter, Finset.mem_univ, true_and, Finset.mem_image, Finset.mem_Iio, hiff]
    obtain ⟨i, rfl⟩ := sortedFrom_surjective (tieB x) j
    constructor
    · intro h
      refine ⟨i, ?_, rfl⟩
      rcases lt_trichotomy i p with q | q | q
      · exact q
      · subst q
        rw [(tieB_total x).irrefl] at h
        cases h
      · rw [(tieB_total x).asymm _ _ (sortedFrom_mono x q)] at h
        cases h
    · rintro ⟨k, hk, e⟩
      rw [← e]
      exact sortedFrom_mono x hk
  unfold rank
  rw [hset, Finset.card_image_of_injective _ (sortedFrom_injective _), Fin.card_Iio]

/-- Position `r` is one of the first `k` of the stable descending sort exactly when its rank is below `k`. -/
theorem mem_first_iff (x : Fin n → α) {k : Nat} (hk : k ≤ n) (r : Fin n) :
    (∃ p : Fin k, sortedFrom (gtB x) (p.castLE hk) = r) ↔ rank x r < k := by
  constructor
  · rintro ⟨p, rfl⟩
    rw [sortedFrom_gt_eq, rank_sortedFrom]
    exact p.isLt
  · intro h
    obtain ⟨p, rfl⟩ := sortedFrom_surjective (tieB x) r
    rw [rank_sortedFrom] at h
    exact ⟨⟨p.val, h⟩, sortedFrom_gt_eq x p⟩

end Cert.TopK
-- ==== Proof.Spec.lean ====
/- The computation in plain formulas over the extended reals: the pooled hidden states, the small network that scores
   the ranks, the eight kept ranks and the transformed activations; and the scalar identities by which the kernel's
   arithmetic meets it. -/
module
public import proofs.«01_k».proof.Proof.TopKMask
public import Idealize.ShloMosaic.Lib.Pointwise
@[expose] public section

noncomputable section
namespace Cert.Spec
open Idealize.ShloMosaic

/-- 2048. -/
abbrev c2048 : EReal := Ideal.ofBits .f32 0x45000000#32
/-- 32. -/
abbrev c32 : EReal := Ideal.ofBits .f32 0x42000000#32
/-- The constant added to the variance. -/
abbrev eps : EReal := Ideal.ofBits .f32 0x3727C5AC#32
/-- One half. -/
abbrev half : EReal := Ideal.ofBits .f32 0x3F000000#32
/-- The rounded inverse square root of two. -/
abbrev isq2 : EReal := Ideal.ofBits .f32 0x3F3504F3#32

/-- The mean over the sequence. -/
def pool (hid : Fin 2048 → Fin 2048 → EReal) (k : Fin 2048) : EReal := Ideal.div (∑ s, hid s k) c2048
/-- The first linear layer. -/
def proj (p : Fin 2048 → EReal) (w : Fin 32 → Fin 2048 → EReal) (b : Fin 32 → EReal) (a : Fin 32) : EReal :=
  (∑ k, p k * w a k) + b a
/-- The mean of a layer's 32 values. -/
def mean (h : Fin 32 → EReal) : EReal := Ideal.div (∑ a, h a) c32
/-- Their variance. -/
def var (h : Fin 32 → EReal) : EReal := Ideal.div (∑ a, (h a - mean h) * (h a - mean h)) c32
/-- The layer normalised, scaled and shifted. -/
def norm (h g be : Fin 32 → EReal) (a : Fin 32) : EReal := Ideal.div (h a - mean h) (Ideal.sqrt (var h + eps)) * g a + be a
/-- The exact Gaussian error linear unit. -/
def gelu (x : EReal) : EReal := half * x * Ideal.erfc (-x * isq2)
/-- The score of rank `r`. -/
def logit (y : Fin 32 → EReal) (w : Fin 64 → Fin 32 → EReal) (b ml : Fin 64 → EReal) (r : Fin 64) : EReal :=
  (∑ a, gelu (y a) * w r a) + b r + ml r
/-- One for a rank among the eight best scores, zero for the others. -/
def keep (x : Fin 64 → EReal) (r : Fin 64) : EReal := if Cert.TopK.rank x r < 8 then 1 else 0
/-- The scores of one batch row. -/
def scores (hid : Fin 2048 → Fin 2048 → EReal) (w1 : Fin 32 → Fin 2048 → EReal) (b1 g be : Fin 32 → EReal)
    (w2 : Fin 64 → Fin 32 → EReal) (b2 ml : Fin 64 → EReal) : Fin 64 → EReal :=
  logit (norm (proj (pool hid) w1 b1) g be) w2 b2 ml
/-- The activations of one position, masked, scaled and transformed. -/
def out (act x sc : Fin 64 → EReal) (tbl : Fin 64 → Fin 64 → EReal) (o : Fin 64) : EReal :=
  ∑ r, act r * keep x r * sc r * tbl o r

theorem c2048_eq : c2048 = ((2048 : ℝ) : EReal) := by
  simp [c2048, Ideal.ofBits, Ideal.ieee, -EReal.coe_mul]; norm_num

theorem c32_eq : c32 = ((32 : ℝ) : EReal) := by
  simp [c32, Ideal.ofBits, Ideal.ieee, -EReal.coe_mul]; norm_num

theorem c8_eq : Ideal.ofBits .f32 0x41000000#32 = ((8 : ℝ) : EReal) := by
  simp [Ideal.ofBits, Ideal.ieee, -EReal.coe_mul]; norm_num

theorem inv2048_eq : Ideal.ofBits .f32 0x3A000000#32 = ((1 / 2048 : ℝ) : EReal) := by
  simp [Ideal.ofBits, Ideal.ieee, -EReal.coe_mul]; norm_num

theorem eps_pos : ∃ r : ℝ, 0 < r ∧ eps = (r : EReal) := by
  refine ⟨_, ?_, by simp [eps, Ideal.ofBits, Ideal.ieee, -EReal.coe_mul]; rfl⟩
  norm_num

/-- Multiplying by the exact inverse of 2048 is dividing by 2048. -/
theorem mul_inv2048 (x : EReal) : x * Ideal.ofBits .f32 0x3A000000#32 = Ideal.div x c2048 := by
  rw [inv2048_eq, c2048_eq, Ideal.div_coe (by norm_num)]

/-- A square is not negative. -/
theorem sq_nonneg (x : EReal) : 0 ≤ x * x := by
  rcases le_total 0 x with h | h
  · exact mul_nonneg h h
  · induction x with
    | bot => simp
    | top => simp
    | coe r => rw [← EReal.coe_mul]; exact_mod_cast mul_self_nonneg r

/-- The variance is not negative. -/
theorem var_nonneg (h : Fin 32 → EReal) : 0 ≤ var h := by
  unfold var
  rw [c32_eq, Ideal.div_coe (by norm_num)]
  refine mul_nonneg (Finset.sum_nonneg fun a _ => sq_nonneg _) ?_
  exact_mod_cast (by norm_num : (0 : ℝ) ≤ 1 / 32)

/-- Multiplying by the inverse square root of a positive number is dividing by its square root. -/
theorem mul_rsqrt (x y : EReal) (hy : 0 < y) : x * Ideal.rsqrt y = Ideal.div x (Ideal.sqrt y) := by
  induction y with
  | bot => exact absurd hy (by simp)
  | top => simp [Ideal.div]
  | coe r =>
    have hr : 0 < r := by exact_mod_cast hy
    have hs : Real.sqrt r ≠ 0 := (Real.sqrt_pos.2 hr).ne'
    rw [Ideal.rsqrt_coe, Ideal.sqrt_coe, if_neg hr.le.not_gt, if_neg hr.ne', if_neg hr.le.not_gt, Ideal.div_coe hs, one_div]

/-- The kernel's normalisation. -/
theorem norm_eq (h g be : Fin 32 → EReal) (a : Fin 32) :
    (h a - mean h) * Ideal.rsqrt (var h + eps) * g a + be a = norm h g be a := by
  have hp : 0 < var h + eps := by
    obtain ⟨r, hr, e⟩ := eps_pos
    rw [e]
    have h0 : (0 : EReal) < (r : EReal) := by exact_mod_cast hr
    exact h0.trans_le (le_add_of_nonneg_left (var_nonneg h))
  unfold norm
  rw [mul_rsqrt _ _ hp]

/-- The kernel's Gaussian error linear unit. -/
theorem gelu_eq (x : EReal) : x * half * (1 + Ideal.erf (x * isq2)) = gelu x := by
  unfold gelu
  rw [EReal.neg_mul, Ideal.erfc_neg, mul_comm x half]

/-- A sum of zeros and ones counts. -/
theorem sum_ite_eq_card {n : Nat} (p : Fin n → Prop) [DecidablePred p] :
    (∑ i, if p i then (1 : EReal) else 0) = (((Finset.univ.filter p).card : ℝ) : EReal) := by
  have h : ∀ s : Finset (Fin n), (∑ i ∈ s, if p i then (1 : EReal) else 0) = (((s.filter p).card : ℝ) : EReal) := by
    intro s
    induction s using Finset.induction_on with
    | empty => simp
    | insert a s ha ih =>
      rw [Finset.sum_insert ha, ih, Finset.filter_insert]
      by_cases q : p a
      · rw [if_pos q, if_pos q, Finset.card_insert_of_notMem (fun hm => ha (Finset.mem_filter.1 hm).1)]
        push_cast
        rw [add_comm]
      · rw [if_neg q, if_neg q, zero_add]
  exact h Finset.univ

/-- A bit widened and converted is zero or one. -/
theorem bit_eq (b : Bool) : FloatOps.sitofp (F := Ideal) .f32 ((BitVec.ofBool b).setWidth 32) = if b = true then (1 : EReal) else 0 := by
  show Scalar.sitofp (F := Ideal) .f32 ((BitVec.ofBool b).setWidth 32) = _
  cases b <;> simp

/-- Signed comparison of two positions as words. -/
theorem slt_word (i j : Fin 64) :
    IntOp.cmpi .slt (BitVec.ofNat 32 i.val) (BitVec.ofNat 32 j.val) = BitVec.ofBool (decide (i < j)) := by
  revert i j
  decide +kernel

/-- "Greater, or equal at a lower position" computed on bits. -/
theorem before_bits (p q : Prop) [Decidable p] [Decidable q] (i j : Fin 64) :
    IntOp.ori (BitVec.ofBool (decide p)) (IntOp.andi (BitVec.ofBool (decide q)) (IntOp.cmpi .slt (BitVec.ofNat 32 i.val) (BitVec.ofNat 32 j.val)))
      = BitVec.ofBool (decide (p ∨ (q ∧ i < j))) := by
  rw [slt_word]
  by_cases hp : p <;> by_cases hq : q <;> by_cases hl : i < j <;> simp [hp, hq, hl, IntOp.ori, IntOp.andi]

/-- The kernel's mask: the number of ranks that come before `r`, counted and compared with eight. -/
theorem keep_bits (x : Fin 64 → EReal) (r : Fin 64) :
    FloatOps.sitofp (F := Ideal) .f32 (BitVec.setWidth 32 (BitVec.ofBool (decide
      ((∑ i : Fin 64, FloatOps.sitofp (F := Ideal) .f32 (BitVec.setWidth 32
        (IntOp.ori (BitVec.ofBool (decide (x r < x i))) (IntOp.andi (BitVec.ofBool (decide (x i = x r)))
          (IntOp.cmpi .slt (BitVec.ofNat 32 i.val) (BitVec.ofNat 32 r.val)))))) < Ideal.ofBits .f32 0x41000000#32))))
      = keep x r := by
  simp only [before_bits, bit_eq, decide_eq_true_eq]
  rw [sum_ite_eq_card, c8_eq]
  have h : ((((Finset.univ.filter fun i : Fin 64 => x r < x i ∨ (x i = x r ∧ i < r)).card : ℝ) : EReal) < ((8 : ℝ) : EReal))
      ↔ Cert.TopK.rank x r < 8 := by
    rw [EReal.coe_lt_coe_iff]
    unfold Cert.TopK.rank
    exact_mod_cast Iff.rfl
  unfold keep
  exact if_congr h rfl rfl

end Cert.Spec
-- ==== Proof.KernelIdealValue.lean ====
/- What one batch row of the kernel's result is, in plain formulas. -/
module
public import proofs.«01_k».proof.Proof.KernelIdealRows
public import proofs.«01_k».proof.Proof.Spec
@[expose] public section
set_option maxRecDepth 16384
noncomputable section
namespace Cert.KernelIdeal.Hand
open Cert.KernelIdeal Cert.KernelIdeal.Gen Idealize.ShloMosaic Idealize.ShloMosaic.TcCoe Idealize.SL.Sem

/-- The masked, scaled transform table: entry `(o, r)` is the table's times the mask and the scale of rank `r`. -/
theorem pay10_at (v406 : FVec Ideal S1x32 .f32) (v407 : Vec Ideal S1x32 .f32) (v418 : Vec Ideal S32x64 .f32)
    (v421 v424 v445 : Vec Ideal S1x64 .f32) (v448 : Vec Ideal S64x64 .f32) (y : Fin 32 → EReal)
    (hy : ∀ a, v406 (ix2 0 a) + v407 (ix2 0 a) = y a) (o r : Fin 64) :
    k0_pay10 (F := Ideal) (iota Kind.tc S64x64 32 [1] iota_S64x64_d1_w32) (iota Kind.tc S64x64 32 [0] iota_S64x64_d0_w32)
      v406 v407 v418 v421 v424 v445 v448 (ix2 o r)
      = v448 (ix2 o r) * (Spec.keep (Spec.logit y (fun r a => v418 (ix2 a r)) (fun r => v421 (ix2 0 r)) (fun r => v424 (ix2 0 r))) r
          * v445 (ix2 0 r)) := by
  rw [← Spec.keep_bits]
  pointwise [k0_pay10]
  simp only [Ideal.erf_def, hy, Spec.gelu_eq]
  rfl

/-- The first layer's values of a row, normalised and scaled. -/
theorem pay9_at (v364 : FVec Ideal S8x2048 .f32) (v381 : Vec Ideal S32x2048 .f32) (v383 v404 : Vec Ideal S1x32 .f32) (h : Fin 32 → EReal)
    (hh : ∀ a : Fin 32, (∑ k : Fin 2048, (∑ p : Fin 8, v364 (ix2 p k)) * Ideal.ofBits .f32 0x3A000000#32 * v381 (ix2 a k)) + v383 (ix2 0 a) = h a)
    (a : Fin 32) :
    k0_pay9 (F := Ideal) v364 v381 v383 v404 (ix2 0 a)
      = (h a - Spec.mean h) * Ideal.rsqrt (Spec.var h + Spec.eps) * v404 (ix2 0 a) := by
  pointwise [k0_pay9]
  simp only [hh]
  rfl

/-- The first chunk's partial sums. -/
theorem pay1_at (v : Vec Ideal S1x256x2048 .f32) (p : Fin 8) (k : Fin 2048) :
    k0_pay1 (F := Ideal) v (ix2 p k) = ∑ x : Fin 32, v (ix3 0 ⟨x.val * 8 + p.val, by omega⟩ k) := by
  pointwise [k0_pay1]

/-- The later chunks' partial sums, each added to those before. -/
theorem pay2_at (a : FVec Ideal S8x2048 .f32) (v : Vec Ideal S1x256x2048 .f32) (p : Fin 8) (k : Fin 2048) :
    k0_pay2 (F := Ideal) a v (ix2 p k) = a (ix2 p k) + ∑ x : Fin 32, v (ix3 0 ⟨x.val * 8 + p.val, by omega⟩ k) := by
  pointwise [k0_pay2]

/-- The sums over the eight chunks, by residue. -/
theorem pooled_at (fh : S4x2048x2048.Idx → Elt Ideal .f32) (b : Fin 4) (p : Fin 8) (k : Fin 2048) :
    pooled fh b (ix2 p k) = ∑ q : Fin 8, ∑ x : Fin 32, (show EReal from fh (ix3 b ⟨q.val * 256 + (x.val * 8 + p.val), by omega⟩ k)) := by
  rw [Fin.sum_univ_eight]
  have e : ∀ q : Fin 8, (∑ x : Fin 32, (show EReal from chunk fh b q (ix3 0 ⟨x.val * 8 + p.val, by omega⟩ k)))
      = ∑ x : Fin 32, (show EReal from fh (ix3 b ⟨q.val * 256 + (x.val * 8 + p.val), by omega⟩ k)) := fun q =>
    Finset.sum_congr rfl fun x _ => congrArg (fun z => fh (ix3 b z k)) (Fin.ext (by
      show 256 * q.val + (x.val * 8 + p.val) = q.val * 256 + (x.val * 8 + p.val)
      omega))
  rw [← e 0, ← e 1, ← e 2, ← e 3, ← e 4, ← e 5, ← e 6, ← e 7]
  unfold pooled
  refine (pay2_at _ _ p k).trans (congrArg (· + _) ?_)
  refine (pay2_at _ _ p k).trans (congrArg (· + _) ?_)
  refine (pay2_at _ _ p k).trans (congrArg (· + _) ?_)
  refine (pay2_at _ _ p k).trans (congrArg (· + _) ?_)
  refine (pay2_at _ _ p k).trans (congrArg (· + _) ?_)
  refine (pay2_at _ _ p k).trans (congrArg (· + _) ?_)
  refine (pay2_at _ _ p k).trans (congrArg (· + _) ?_)
  exact pay1_at _ p k

/-- All the partial sums of a row together are the sum over the sequence. -/
theorem pooled_sum (fh : S4x2048x2048.Idx → Elt Ideal .f32) (b : Fin 4) (k : Fin 2048) :
    (∑ p : Fin 8, pooled fh b (ix2 p k)) = ∑ s : Fin 2048, (show EReal from fh (ix3 b s k)) := by
  rw [Fin.sum_univ_tiles 8 256 rfl]
  have e : ∀ q : Fin 8, (∑ t : Fin 256, (show EReal from fh (ix3 b ⟨q.val * 256 + t.val, by omega⟩ k)))
      = ∑ x : Fin 32, ∑ p : Fin 8, (show EReal from fh (ix3 b ⟨q.val * 256 + (x.val * 8 + p.val), by omega⟩ k)) := fun q =>
    Fin.sum_univ_tiles 32 8 rfl _
  rw [Finset.sum_congr rfl fun q _ => e q]
  rw [Finset.sum_congr rfl fun p _ => pooled_at fh b p k, Finset.sum_comm]
  exact Finset.sum_congr rfl fun q _ => Finset.sum_comm

/-- A batch row of the result at rank `o` and position `s`. -/
theorem outRow_at (x0 : S64x64.Idx → Elt Ideal .f32) (x1 : S32x2048.Idx → Elt Ideal .f32) (x2 x3 x4 : S1x32.Idx → Elt Ideal .f32)
    (x5 : S32x64.Idx → Elt Ideal .f32) (x6 x7 x8 : S1x64.Idx → Elt Ideal .f32) (fa : S4x64x2048.Idx → Elt Ideal .f32)
    (fh : S4x2048x2048.Idx → Elt Ideal .f32) (b : Fin 4) (o : Fin 64) (s : Fin 2048) :
    outRow x0 x1 x2 x3 x4 x5 x6 x7 x8 fa fh b (ix3 0 o s)
      = Spec.out (fun r => fa (ix3 b r s))
          (Spec.scores (fun s k => fh (ix3 b s k)) (fun a k => x1 (ix2 a k)) (fun a => x2 (ix2 0 a)) (fun a => x3 (ix2 0 a)) (fun a => x4 (ix2 0 a))
            (fun r a => x5 (ix2 a r)) (fun r => x6 (ix2 0 r)) (fun r => x7 (ix2 0 r)))
          (fun r => x8 (ix2 0 r)) (fun o r => x0 (ix2 o r)) o := by
  unfold outRow Spec.out
  have h11 : ∀ (a : FVec Ideal S64x64 .f32) (v : Vec Ideal S1x64x2048 .f32),
      k0_pay11 (F := Ideal) a v (ix3 0 o s) = ∑ r : Fin 64, a (ix2 o r) * v (ix3 0 r s) := fun a v => by
    pointwise [k0_pay11]
  refine (h11 _ _).trans (Finset.sum_congr rfl fun r _ => ?_)
  have hh : ∀ a : Fin 32, (∑ k : Fin 2048, (∑ p : Fin 8, pooled fh b (ix2 p k)) * Ideal.ofBits .f32 0x3A000000#32 * x1 (ix2 a k)) + x2 (ix2 0 a)
      = Spec.proj (Spec.pool fun s k => fh (ix3 b s k)) (fun a k => x1 (ix2 a k)) (fun a => x2 (ix2 0 a)) a := fun a => by
    unfold Spec.proj Spec.pool
    simp only [pooled_sum, Spec.mul_inv2048]
  have h10 := pay10_at (k0_pay9 (pooled fh b) x1 x2 x3) x4 x5 x6 x7 x8 x0
    (Spec.norm (Spec.proj (Spec.pool fun s k => fh (ix3 b s k)) (fun a k => x1 (ix2 a k)) (fun a => x2 (ix2 0 a)))
      (fun a => x3 (ix2 0 a)) (fun a => x4 (ix2 0 a)))
    (fun a => by rw [pay9_at _ _ _ _ _ hh a]; exact Spec.norm_eq _ (fun a => x3 (ix2 0 a)) (fun a => x4 (ix2 0 a)) a) o r
  rw [h10]
  show _ * (show EReal from fa (ix3 b r s)) = _
  rw [mul_comm]
  unfold Spec.scores
  rw [mul_comm (x0 (ix2 o r)), ← mul_assoc, ← mul_assoc]
end Cert.KernelIdeal.Hand
-- ==== Proof.ReferenceIdealValue.lean ====
/- What the reference's result is, in plain formulas. -/
module
public import proofs.«01_k».proof.Proof.Gen.ReferenceIdeal.Run
public import proofs.«01_k».proof.Proof.Spec
public import Idealize.ShloMosaic.Lib.Routing.OpsPair
public import Idealize.ShloMosaic.Lib.Routing.OpsSet
@[expose] public section
set_option maxRecDepth 16384
noncomputable section
namespace Cert.ReferenceIdeal.Hand
open Cert.ReferenceIdeal Cert.ReferenceIdeal.Gen Idealize.ShloMosaic Idealize.ShloMosaic.TcCoe Idealize.SL.Sem

/-! ## The reference's term, in stages -/

/-- The first linear layer of the pooled hidden states. -/
def refH (hid : FVec Ideal S4x2048x2048 .f32) (w1 : FVec Ideal S32x2048 .f32) (b1 : FVec Ideal S32 .f32) : FVec Ideal S4x32 .f32 :=
  addf (Host.dotGeneral dot_S4x2048_S2048x32_S4x32_1_0_0_1_n_n none
      (Host.divf (Host.reduceAdd hid (constant S_ .f32 0x00000000#32) reducesTo_S4x2048x2048_S4x2048_d1 h_S_) (broadcastInDim S4x2048 ![] bcast_S_S4x2048 (constant S_ .f32 0x45000000#32)))
      (transpose S2048x32 [1, 0] w1 transposes_S32x2048_S2048x32_1_0))
    (broadcastInDim S4x32 ![0, 1] bcast_S1x32_S4x32_0_1 (broadcastInDim S1x32 ![1] bcast_S32_S1x32_1 b1))

/-- The mean of each row of a layer. -/
def refMu (h : FVec Ideal S4x32 .f32) : FVec Ideal S4x1 .f32 :=
  Host.divf (broadcastInDim S4x1 ![0] bcast_S4_S4x1_0 (Host.reduceAdd h (constant S_ .f32 0x00000000#32) reducesTo_S4x32_S4_d1 h_S_)) (broadcastInDim S4x1 ![] bcast_S_S4x1 (constant S_ .f32 0x42000000#32))

/-- The number of values the variance divides by. -/
def refN : FVec Ideal S_ .f32 := subf (constant S_ .f32 0x42000000#32) (sitofp .f32 (constantI S_ 32 0#32))

/-- The variance of each row of a layer. -/
def refVar (h : FVec Ideal S4x32 .f32) : FVec Ideal S4x1 .f32 :=
  select (broadcastInDim S4x1 ![] bcast_S_S4x1 (cmpf .ogt refN (constant S_ .f32 0x00000000#32)))
    (Host.divf (broadcastInDim S4x1 ![0] bcast_S4_S4x1_0 (Host.reduceAdd (mulf (subf h (broadcastInDim S4x32 ![0, 1] bcast_S4x1_S4x32_0_1 (refMu h))) (subf h (broadcastInDim S4x32 ![0, 1] bcast_S4x1_S4x32_0_1 (refMu h)))) (constant S_ .f32 0x00000000#32) reducesTo_S4x32_S4_d1 h_S_))
      (broadcastInDim S4x1 ![] bcast_S_S4x1 refN))
    (broadcastInDim S4x1 ![] bcast_S_S4x1 (id (constant S_ .f32 0x7FC00000#32)))

/-- The layer normalised, scaled and shifted. -/
def refY (h : FVec Ideal S4x32 .f32) (g be : FVec Ideal S32 .f32) : FVec Ideal S4x32 .f32 :=
  addf (mulf (Host.divf (subf h (broadcastInDim S4x32 ![0, 1] bcast_S4x1_S4x32_0_1 (refMu h)))
        (broadcastInDim S4x32 ![0, 1] bcast_S4x1_S4x32_0_1 (Host.sqrt (addf (refVar h) (broadcastInDim S4x1 ![] bcast_S_S4x1 (constant S_ .f32 0x3727C5AC#32))))))
      (broadcastInDim S4x32 ![0, 1] bcast_S1x32_S4x32_0_1 (broadcastInDim S1x32 ![1] bcast_S32_S1x32_1 g)))
    (broadcastInDim S4x32 ![0, 1] bcast_S1x32_S4x32_0_1 (broadcastInDim S1x32 ![1] bcast_S32_S1x32_1 be))

/-- The scores. -/
def refX (y : FVec Ideal S4x32 .f32) (w2 : FVec Ideal S64x32 .f32) (b2 ml : FVec Ideal S64 .f32) : FVec Ideal S4x64 .f32 :=
  addf (addf (Host.dotGeneral dot_S4x32_S32x64_S4x64_1_0_0_1_n_n none
        (mulf (mulf (broadcastInDim S4x32 ![] bcast_S_S4x32 (constant S_ .f32 0x3F000000#32)) y) (Host.erfc (mulf (Host.negf y) (broadcastInDim S4x32 ![] bcast_S_S4x32 (constant S_ .f32 0x3F3504F3#32)))))
        (transpose S32x64 [1, 0] w2 transposes_S64x32_S32x64_1_0))
      (broadcastInDim S4x64 ![0, 1] bcast_S1x64_S4x64_0_1 (broadcastInDim S1x64 ![1] bcast_S64_S1x64_1 b2)))
    (broadcastInDim S4x64 ![0, 1] bcast_S1x64_S4x64_0_1 (broadcastInDim S1x64 ![1] bcast_S64_S1x64_1 ml))

/-- The positions of the eight greatest scores of each row. -/
def refTop (x : FVec Ideal S4x64 .f32) : IVec S4x8 32 := (Host.topK S4x8 1 (FloatOps.cmpfTotal .gt) x sliceFits_S4x64_S4x8).2

/-- The row numbers beside the wrapped positions, as the scatter reads them. -/
def refCat (t : IVec S4x8 32) : IVec S4x8x2 32 :=
  concatenate S4x8x2 2 [⟨S4x8x1, (broadcastInDim S4x8x1 ![0, 1] bcast_S4x8_S4x8x1_0_1 (broadcastInDim S4x8 ![0, 1] bcast_S4x1_S4x8_0_1 (select (cmpi .slt (broadcastInDim S4x1 ![0] bcast_S4_S4x1_0 (iotaInDim S4 32 0)) (broadcastInDim S4x1 ![] bcast_S_S4x1 (constantI S_ 32 0#32))) (addi (broadcastInDim S4x1 ![0] bcast_S4_S4x1_0 (iotaInDim S4 32 0)) (broadcastInDim S4x1 ![] bcast_S_S4x1 (constantI S_ 32 4#32))) (broadcastInDim S4x1 ![0] bcast_S4_S4x1_0 (iotaInDim S4 32 0)))))⟩,
    ⟨S4x8x1, (broadcastInDim S4x8x1 ![0, 1] bcast_S4x8_S4x8x1_0_1 (select (cmpi .slt t (broadcastInDim S4x8 ![] bcast_S_S4x8 (constantI S_ 32 0#32))) (addi t (broadcastInDim S4x8 ![] bcast_S_S4x8 (constantI S_ 32 64#32))) t))⟩] concatenates_S4x8x1_S4x8x1_S4x8x2_d2

/-- Ones written into zeros at the kept positions. -/
def refMask (x : FVec Ideal S4x64 .f32) : FVec Ideal S4x64 .f32 :=
  Host.scatter scatter_S4x64_S4x8x2_S4x8_n_01_01_2 (fun _ b => b) (broadcastInDim S4x64 ![] bcast_S_S4x64 (constant S_ .f32 0x00000000#32))
    (refCat (refTop x)) (broadcastInDim S4x8 ![] bcast_S_S4x8 (constant S_ .f32 0x3F800000#32))

/-- The transform's table. -/
def refTable : FVec Ideal S64x64 .f32 := fun i => FloatOps.ofBits .f32 (lit0 (S64x64.rowMajor i))

/-- The activations masked, scaled and transformed. -/
def refOut (act : FVec Ideal S4x2048x64 .f32) (k : FVec Ideal S4x64 .f32) (sc : FVec Ideal S64 .f32) (tbl : FVec Ideal S64x64 .f32) :
    FVec Ideal S4x2048x64 .f32 :=
  shapeCast S4x2048x64 (Host.dotGeneral dot_S8192x64_S64x64_S8192x64_1_0_0_1_n_n none
    (shapeCast S8192x64 (mulf (mulf act (broadcastInDim S4x2048x64 ![0, 1, 2] bcast_S4x1x64_S4x2048x64_0_1_2 (broadcastInDim S4x1x64 ![0, 2] bcast_S4x64_S4x1x64_0_2 k)))
      (broadcastInDim S4x2048x64 ![0, 1, 2] bcast_S1x1x64_S4x2048x64_0_1_2 (broadcastInDim S1x1x64 ![2] bcast_S64_S1x1x64_2 sc))) shapeCasts_S4x2048x64_S8192x64)
    (transpose S64x64 [1, 0] tbl transposes_S64x64_S64x64_1_0)) shapeCasts_S8192x64_S4x2048x64

/-- The whole reference. -/
def refAll (act : FVec Ideal S4x2048x64 .f32) (hid : FVec Ideal S4x2048x2048 .f32) (w1 : FVec Ideal S32x2048 .f32) (b1 g be : FVec Ideal S32 .f32)
    (w2 : FVec Ideal S64x32 .f32) (b2 ml sc : FVec Ideal S64 .f32) : FVec Ideal S4x2048x64 .f32 :=
  refOut act (refMask (refX (refY (refH hid w1 b1) g be) w2 b2 ml)) sc refTable

/-- The term the run leaves is the stages composed. -/
theorem res_eq (m : (ℓ : Loc nD τ sig) → Buf (Elt Ideal) ℓ) (c : Dev nD) :
    Value.res_main_v69 m c
      = refAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := rfl

/-! ## Each stage at an index -/

/-- The first layer at an entry. -/
theorem refH_at (hid : FVec Ideal S4x2048x2048 .f32) (w1 : FVec Ideal S32x2048 .f32) (b1 : FVec Ideal S32 .f32) (b : Fin 4) (a : Fin 32) :
    refH hid w1 b1 (ix2 b a)
      = Spec.proj (Spec.pool fun s k => hid (ix3 b s k)) (fun a k => w1 (ix2 a k)) (fun a => b1 (ix1 a)) a := by
  unfold Spec.proj Spec.pool
  pointwise [refH]

/-- The number the variance divides by is 32. -/
theorem count_eq : Ideal.ofBits .f32 0x42000000#32 - FloatOps.sitofp (F := Ideal) .f32 (0#32) = Spec.c32 := by
  have h : (FloatOps.sitofp (F := Ideal) .f32 (0#32) : EReal) = 0 := by
    show (((0#32 : BitVec 32).toInt : ℝ) : EReal) = 0
    simp
  rw [h]
  exact sub_zero _

/-- It is positive. -/
theorem count_pos : (0 : EReal) < Spec.c32 := by
  rw [Spec.c32_eq]
  exact_mod_cast (by norm_num : (0 : ℝ) < 32)

/-- The normalised layer at an entry. -/
theorem refY_at (h : FVec Ideal S4x32 .f32) (g be : FVec Ideal S32 .f32) (b : Fin 4) (a : Fin 32) :
    refY h g be (ix2 b a) = Spec.norm (fun a => h (ix2 b a)) (fun a => g (ix1 a)) (fun a => be (ix1 a)) a := by
  unfold Spec.norm
  pointwise [refY, refVar, refN, refMu]
  rw [count_eq, if_pos count_pos]
  rfl

/-- A score. -/
theorem refX_at (y : FVec Ideal S4x32 .f32) (w2 : FVec Ideal S64x32 .f32) (b2 ml : FVec Ideal S64 .f32) (b : Fin 4) (r : Fin 64) :
    refX y w2 b2 ml (ix2 b r) = Spec.logit (fun a => y (ix2 b a)) (fun r a => w2 (ix2 r a)) (fun r => b2 (ix1 r)) (fun r => ml (ix1 r)) r := by
  unfold Spec.logit Spec.gelu
  pointwise [refX]

/-- The transform at an entry: a sum over the ranks. -/
theorem refOut_at (act : FVec Ideal S4x2048x64 .f32) (k : FVec Ideal S4x64 .f32) (sc : FVec Ideal S64 .f32) (tbl : FVec Ideal S64x64 .f32)
    (b : Fin 4) (s : Fin 2048) (o : Fin 64) :
    refOut act k sc tbl (ix3 b s o) = ∑ r : Fin 64, act (ix3 b s r) * k (ix2 b r) * sc (ix1 r) * tbl (ix2 o r) := by
  pointwise [refOut]

/-- The positions are those of the stable descending sort of the row. -/
theorem refTop_at (x : FVec Ideal S4x64 .f32) (b : Fin 4) (p : Fin 8) :
    refTop x (ix2 b p)
      = BitVec.ofNat 32 (sortedFrom (TopK.gtB fun r : Fin 64 => x (ix2 b r)) (p.castLE (by decide))).val := by
  have ha : ∀ (q k : Fin 64), (ix2 b q : S4x64.Idx).along (1 : Fin 2) k = ix2 b k := fun q k => by
    funext d
    match d with
    | 0 => rfl
    | 1 => rfl
  have hs : (extractStridedSlice S4x8 (fun _ => 0) (Host.sort2 S4x64 1 (fun l r => FloatOps.cmpfTotal (F := Ideal) (φ := .f32) .gt l.1 r.1) x
        (fun i => iotaInDim S4x64 32 1 i)).2 sliceFits_S4x64_S4x8 (ix2 b p))
      = (Host.sort2 S4x64 1 (fun l r => FloatOps.cmpfTotal (F := Ideal) (φ := .f32) .gt l.1 r.1) x
        (fun i => iotaInDim S4x64 32 1 i)).2 (ix2 b (p.castLE (by decide) : Fin 64)) := by
    pointwise []
    rfl
  refine hs.trans ?_
  show BitVec.ofNat 32 (((ix2 b (p.castLE (by decide) : Fin 64) : S4x64.Idx).along (1 : Fin 2) (sortedFrom (n := 64)
      (fun k k' => FloatOps.cmpfTotal (F := Ideal) (φ := .f32) .gt (x ((ix2 b (p.castLE (by decide) : Fin 64) : S4x64.Idx).along (1 : Fin 2) k))
        (x ((ix2 b (p.castLE (by decide) : Fin 64) : S4x64.Idx).along (1 : Fin 2) k')) == 1#1) (p.castLE (by decide)))) 1).val = _
  have hb : (fun k k' : Fin 64 => FloatOps.cmpfTotal (F := Ideal) (φ := .f32) .gt (x ((ix2 b (p.castLE (by decide) : Fin 64) : S4x64.Idx).along (1 : Fin 2) k))
        (x ((ix2 b (p.castLE (by decide) : Fin 64) : S4x64.Idx).along (1 : Fin 2) k')) == 1#1) = TopK.gtB fun r : Fin 64 => x (ix2 b r) := by
    funext k k'
    rw [ha, ha]
    show (BitVec.ofBool (decide (x (ix2 b k') < x (ix2 b k))) == 1#1) = decide _
    cases decide (x (ix2 b k') < x (ix2 b k)) <;> rfl
  rw [hb, ha]
  rfl

/-- The scatter's two words of an update: its row, and the position kept. -/
theorem refCat_at (t : IVec S4x8 32) (ht : ∀ b p, (t (ix2 b p)).toNat < 64) (b : Fin 4) (p : Fin 8) :
    refCat t (ix3 b p 0) = BitVec.ofNat 32 b.val ∧ refCat t (ix3 b p 1) = t (ix2 b p) := by
  have h : ∀ q : Fin 2, refCat t (ix3 b p q) = if q.val < 1 then BitVec.ofNat 32 b.val else t (ix2 b p) := fun q => by
    pointwise [refCat]
    rw [Routing.wrap_of_lt _ _ (by simp [BitVec.toNat_ofNat]; omega), Routing.wrap_of_lt _ _ (by have := ht b p; simp; omega)]
    rfl
  exact ⟨h 0, h 1⟩

/-- The mask is one at the eight best scores and zero elsewhere. -/
theorem refMask_at (x : FVec Ideal S4x64 .f32) (b : Fin 4) (r : Fin 64) :
    refMask x (ix2 b r) = Spec.keep (fun r => x (ix2 b r)) r := by
  have hlt : ∀ b p, (refTop x (ix2 b p)).toNat < 64 := fun b p => by
    rw [refTop_at, BitVec.toNat_ofNat]
    exact Nat.lt_of_le_of_lt (Nat.mod_le _ _) (sortedFrom (TopK.gtB fun r : Fin 64 => x (ix2 b r)) _).isLt
  have hl : ∀ (a : Fin 4) (p : Fin 8), scatter_S4x64_S4x8x2_S4x8_n_01_01_2.resultIdx? (ix2 a p) (refCat (refTop x)) = some (ix2 b r)
      ↔ a = b ∧ sortedFrom (TopK.gtB fun r : Fin 64 => x (ix2 a r)) (p.castLE (by decide)) = r := fun a p => by
    refine (Routing.scatter_lands2 (R := 4) (C := 64) (A := 4) (B := 8) scatter_S4x64_S4x8x2_S4x8_n_01_01_2 rfl rfl rfl _ a p b r).trans ?_
    show (refCat (refTop x) (ix3 a p 0)).toInt = (b.val : Int) ∧ (refCat (refTop x) (ix3 a p 1)).toInt = (r.val : Int) ↔ _
    rw [(refCat_at _ hlt a p).1, (refCat_at _ hlt a p).2, refTop_at,
      StableHlo.Predicate.toInt_ofNat_small _ (by omega), StableHlo.Predicate.toInt_ofNat_small _ (by omega), Fin.ext_iff, Fin.ext_iff]
    omega
  unfold Spec.keep refMask
  by_cases h : TopK.rank (fun r => x (ix2 b r)) r < 8
  · obtain ⟨p, hp⟩ := (TopK.mem_first_iff (fun r => x (ix2 b r)) (by decide : 8 ≤ 64) r).2 h
    rw [if_pos h]
    refine Routing.scatter_set_hit _ _ _ _ _ _ (fun k _ => ?_) (ix2 b p) ((hl b p).2 ⟨rfl, hp⟩)
    exact Ideal.ofBits_one_f32
  · rw [if_neg h, Routing.scatter_set_miss]
    · exact Ideal.ofBits_zero_f32
    · intro k hk
      rw [eq_ix2 k] at hk
      obtain ⟨e, hp⟩ := (hl _ _).1 hk
      refine h ((TopK.mem_first_iff (fun r => x (ix2 b r)) (by decide : 8 ≤ 64) r).1 ⟨k 1, ?_⟩)
      rw [e] at hp
      exact hp

/-- The reference's result at an entry. -/
theorem refAll_at (act : FVec Ideal S4x2048x64 .f32) (hid : FVec Ideal S4x2048x2048 .f32) (w1 : FVec Ideal S32x2048 .f32)
    (b1 g be : FVec Ideal S32 .f32) (w2 : FVec Ideal S64x32 .f32) (b2 ml sc : FVec Ideal S64 .f32) (b : Fin 4) (s : Fin 2048) (o : Fin 64) :
    refAll act hid w1 b1 g be w2 b2 ml sc (ix3 b s o)
      = Spec.out (fun r => act (ix3 b s r))
          (Spec.scores (fun s k => hid (ix3 b s k)) (fun a k => w1 (ix2 a k)) (fun a => b1 (ix1 a)) (fun a => g (ix1 a)) (fun a => be (ix1 a))
            (fun r a => w2 (ix2 r a)) (fun r => b2 (ix1 r)) (fun r => ml (ix1 r)))
          (fun r => sc (ix1 r)) (fun o r => refTable (ix2 o r)) o := by
  unfold refAll Spec.out Spec.scores
  rw [refOut_at]
  simp only [refMask_at, refX_at, refY_at, refH_at]

end Cert.ReferenceIdeal.Hand
-- ==== Proof.KernelIdealOperands.lean ====
/- What the kernel's blocks hold when the launch starts, and the result over the arguments. -/
module
public import proofs.«01_k».proof.Proof.KernelIdealFrame
public import proofs.«01_k».proof.Proof.KernelIdealValue
public import proofs.«01_k».proof.Proof.ReferenceIdealValue
public import Idealize.ShloMosaic.Lib.Pipeline.ValueKit
@[expose] public section
set_option maxRecDepth 16384
noncomputable section
namespace Cert.KernelIdeal.Hand
open Cert.KernelIdeal Cert.KernelIdeal.Gen Idealize.ShloMosaic Idealize.ShloMosaic.TcCoe Idealize.SL.Sem

variable (m : (ℓ : Loc nD τ sig) → Buf (Elt Ideal) ℓ) (c : Dev nD)

/-- Every input window's one block starts at the array's origin. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The transform's table. -/
def table : FVec Ideal S64x64 .f32 := fun i => FloatOps.ofBits .f32 (lit0 (S64x64.rowMajor i))

/-- The arrays as the host's operations before the launch leave them. -/
theorem V_eq (b : Ref sig .tc) : V m c b = StableHlo.after hostOps0 (fun b => m (c, b)) (Proc.devRef .tc b) := rfl

/-- What the host leaves in this array. -/
theorem V_cst : V m c main_cst = table := by
  rw [V_eq]
  entry_read
  rfl
/-- What the host leaves in this array. -/
theorem V_v0 : V m c main_v0 = transpose S4x64x2048 [0, 2, 1] (m ((c : Thread nD τ).loc main_arg0)) transposes_S4x2048x64_S4x64x2048_0_2_1 := by
  rw [V_eq]
  entry_read
  rfl
/-- What the host leaves in this array. -/
theorem V_v1 : V m c main_v1 = shapeCast S1x32 (m ((c : Thread nD τ).loc main_arg3)) shapeCasts_S32_S1x32 := by
  rw [V_eq]
  entry_read
  rfl
/-- What the host leaves in this array. -/
theorem V_v2 : V m c main_v2 = shapeCast S1x32 (m ((c : Thread nD τ).loc main_arg4)) shapeCasts_S32_S1x32 := by
  rw [V_eq]
  entry_read
  rfl
/-- What the host leaves in this array. -/
theorem V_v3 : V m c main_v3 = shapeCast S1x32 (m ((c : Thread nD τ).loc main_arg5)) shapeCasts_S32_S1x32 := by
  rw [V_eq]
  entry_read
  rfl
/-- What the host leaves in this array. -/
theorem V_v5 : V m c main_v5 = shapeCast S1x64 (m ((c : Thread nD τ).loc main_arg7)) shapeCasts_S64_S1x64 := by
  rw [V_eq]
  entry_read
  rfl
/-- What the host leaves in this array. -/
theorem V_v6 : V m c main_v6 = shapeCast S1x64 (m ((c : Thread nD τ).loc main_arg8)) shapeCasts_S64_S1x64 := by
  rw [V_eq]
  entry_read
  rfl
/-- What the host leaves in this array. -/
theorem V_v7 : V m c main_v7 = shapeCast S1x64 (m ((c : Thread nD τ).loc main_arg9)) shapeCasts_S64_S1x64 := by
  rw [V_eq]
  entry_read
  rfl
/-- What the host leaves in this array. -/
theorem V_v4 : V m c main_v4 = transpose S32x64 [1, 0] (m ((c : Thread nD τ).loc main_arg6)) transposes_S64x32_S32x64_1_0 := by
  rw [V_eq]
  entry_read
  rfl

/-- What window 0 holds at an entry. -/
theorem blk0 (o r : Fin 64) : iblk m c 0 t0_0 (ix2 o r) = table (ix2 o r) := by
  have h : iblk m c 0 t0_0 = V m c main_cst := by
    blk_ext! [iblk, idx t0_0]
  rw [h, V_cst]
/-- What window 1 holds at an entry. -/
theorem blk1 (a : Fin 32) (k : Fin 2048) : iblk m c 1 t0_0 (ix2 a k) = (m ((c : Thread nD τ).loc main_arg2)) (ix2 a k) := by
  have h : iblk m c 1 t0_0 = V m c main_arg2 := by
    blk_ext! [iblk, idx t0_0]
  rw [h, V_main_arg2]
/-- What window 2 holds at an entry. -/
theorem blk2 (a : Fin 32) : iblk m c 2 t0_0 (ix2 0 a) = (m ((c : Thread nD τ).loc main_arg3)) (ix1 a) := by
  have h : iblk m c 2 t0_0 = V m c main_v1 := by
    blk_ext! [iblk, idx t0_0]
  rw [h, V_v1]
  pointwise []
/-- What window 3 holds at an entry. -/
theorem blk3 (a : Fin 32) : iblk m c 3 t0_0 (ix2 0 a) = (m ((c : Thread nD τ).loc main_arg4)) (ix1 a) := by
  have h : iblk m c 3 t0_0 = V m c main_v2 := by
    blk_ext! [iblk, idx t0_0]
  rw [h, V_v2]
  pointwise []
/-- What window 4 holds at an entry. -/
theorem blk4 (a : Fin 32) : iblk m c 4 t0_0 (ix2 0 a) = (m ((c : Thread nD τ).loc main_arg5)) (ix1 a) := by
  have h : iblk m c 4 t0_0 = V m c main_v3 := by
    blk_ext! [iblk, idx t0_0]
  rw [h, V_v3]
  pointwise []
/-- What window 5 holds at an entry. -/
theorem blk5 (a : Fin 32) (r : Fin 64) : iblk m c 5 t0_0 (ix2 a r) = (m ((c : Thread nD τ).loc main_arg6)) (ix2 r a) := by
  have h : iblk m c 5 t0_0 = V m c main_v4 := by
    blk_ext! [iblk, idx t0_0]
  rw [h, V_v4]
  pointwise []
/-- What window 6 holds at an entry. -/
theorem blk6 (a : Fin 64) : iblk m c 6 t0_0 (ix2 0 a) = (m ((c : Thread nD τ).loc main_arg7)) (ix1 a) := by
  have h : iblk m c 6 t0_0 = V m c main_v5 := by
    blk_ext! [iblk, idx t0_0]
  rw [h, V_v5]
  pointwise []
/-- What window 7 holds at an entry. -/
theorem blk7 (a : Fin 64) : iblk m c 7 t0_0 (ix2 0 a) = (m ((c : Thread nD τ).loc main_arg8)) (ix1 a) := by
  have h : iblk m c 7 t0_0 = V m c main_v6 := by
    blk_ext! [iblk, idx t0_0]
  rw [h, V_v6]
  pointwise []
/-- What window 8 holds at an entry. -/
theorem blk8 (a : Fin 64) : iblk m c 8 t0_0 (ix2 0 a) = (m ((c : Thread nD τ).loc main_arg9)) (ix1 a) := by
  have h : iblk m c 8 t0_0 = V m c main_v7 := by
    blk_ext! [iblk, idx t0_0]
  rw [h, V_v7]
  pointwise []

/-- The two programs read the same table. -/
theorem table_eq : table = Cert.ReferenceIdeal.Hand.refTable := rfl

/-- The launch's result over the arguments. -/
theorem outAt_at (b : Fin 4) (o : Fin 64) (s : Fin 2048) :
    outAt m c (ix3 b o s)
      = Spec.out (fun r => (m ((c : Thread nD τ).loc main_arg0)) (ix3 b s r))
          (Spec.scores (fun s k => (m ((c : Thread nD τ).loc main_arg1)) (ix3 b s k)) (fun a k => (m ((c : Thread nD τ).loc main_arg2)) (ix2 a k)) (fun a => (m ((c : Thread nD τ).loc main_arg3)) (ix1 a)) (fun a => (m ((c : Thread nD τ).loc main_arg4)) (ix1 a)) (fun a => (m ((c : Thread nD τ).loc main_arg5)) (ix1 a))
            (fun r a => (m ((c : Thread nD τ).loc main_arg6)) (ix2 r a)) (fun r => (m ((c : Thread nD τ).loc main_arg7)) (ix1 r)) (fun r => (m ((c : Thread nD τ).loc main_arg8)) (ix1 r)))
          (fun r => (m ((c : Thread nD τ).loc main_arg9)) (ix1 r)) (fun o r => table (ix2 o r)) o := by
  have hv : ∀ (b : Fin 4) (r : Fin 64) (s : Fin 2048), V m c main_v0 (ix3 b r s) = (m ((c : Thread nD τ).loc main_arg0)) (ix3 b s r) := fun b r s => by
    rw [V_v0]
    pointwise []
  have h := outRow_at (iblk m c 0 t0_0) (iblk m c 1 t0_0) (iblk m c 2 t0_0) (iblk m c 3 t0_0) (iblk m c 4 t0_0) (iblk m c 5 t0_0)
    (iblk m c 6 t0_0) (iblk m c 7 t0_0) (iblk m c 8 t0_0) (V m c main_v0) (V m c main_arg1) b o s
  refine Eq.trans (b := outRow (iblk m c 0 t0_0) (iblk m c 1 t0_0) (iblk m c 2 t0_0) (iblk m c 3 t0_0) (iblk m c 4 t0_0) (iblk m c 5 t0_0)
    (iblk m c 6 t0_0) (iblk m c 7 t0_0) (iblk m c 8 t0_0) (V m c main_v0) (V m c main_arg1) b (ix3 0 o s)) rfl ?_
  refine h.trans ?_
  simp only [blk0, blk1, blk2, blk3, blk4, blk5, blk6, blk7, blk8, hv]
  rw [V_main_arg1]

/-- What the kernel returns: the launch's result with its last two axes exchanged. -/
theorem result_at (b : Fin 4) (s : Fin 2048) (o : Fin 64) :
    transpose S4x2048x64 [0, 2, 1] (outAt m c) transposes_S4x64x2048_S4x2048x64_0_2_1 (ix3 b s o) = outAt m c (ix3 b o s) := by
  pointwise []

end Cert.KernelIdeal.Hand
-- ==== Proof.lean ====
module

public import proofs.«01_k».proof.Defs
public import proofs.«01_k».proof.Proof.KernelFrame
public import proofs.«01_k».proof.Proof.KernelIdealFrame
public import proofs.«01_k».proof.Proof.KernelIdealOperands
public import proofs.«01_k».proof.Proof.ReferenceIdealValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel, at the hardware's floats, ends with its arguments unchanged and every counter at zero. -/
theorem frame_p : Cert.quiescent_Kernel := fun m g _ => Cert.Kernel.Hand.frame_all m g

/-- The kernel, at the extended reals, ends with its arguments unchanged and every counter at zero. -/
theorem frame_pi : Cert.quiescent_KernelIdeal := fun m g _ => Cert.KernelIdeal.Hand.frame_all m g

/-- The reference ends with its arguments unchanged and every counter at zero (it has none). -/
theorem frame_ri : Cert.quiescent_ReferenceIdeal := fun m g _ =>
  (θ_run _ _ _).mono (fun r h => ⟨fun c => (h c).2, sem_eq_zero_of_no_sems rfl r.2⟩) (Cert.ReferenceIdeal.Value.run m g)

/-- On the same arguments the two programs return the same array. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v69 m' c
      = transpose Cert.KernelIdeal.S4x2048x64 [0, 2, 1] (Cert.KernelIdeal.Hand.outAt m c) Cert.KernelIdeal.Gen.transposes_S4x64x2048_S4x2048x64_0_2_1 := by
  obtain ⟨h0, h1, h2, h3, h4, h5, h6, h7, h8, h9⟩ := h
  rw [Cert.ReferenceIdeal.Hand.res_eq, h0, h1, h2, h3, h4, h5, h6, h7, h8, h9]
  funext i
  rw [eq_ix3 i]
  refine (Cert.ReferenceIdeal.Hand.refAll_at _ _ _ _ _ _ _ _ _ _ (i 0) (i 1) (i 2)).trans ?_
  refine Eq.trans ?_ (Cert.KernelIdeal.Hand.result_at m c (i 0) (i 1) (i 2)).symm
  rw [← Cert.KernelIdeal.Hand.table_eq]
  exact (Cert.KernelIdeal.Hand.outAt_at m c (i 0) (i 2) (i 1)).symm

/-- The kernel and the reference, at the extended reals, end with the same result. -/
theorem algebra : Cert.algebraic_KernelIdeal_ReferenceIdeal := fun m g m' g' _ hm =>
  ⟨fun c => transpose Cert.KernelIdeal.S4x2048x64 [0, 2, 1] (Cert.KernelIdeal.Hand.outAt m c) Cert.KernelIdeal.Gen.transposes_S4x64x2048_S4x2048x64_0_2_1,
    (θ_run _ _ _).mono (fun _ h => h.1) (Cert.KernelIdeal.Hand.run_value m g),
    (θ_run _ _ _).mono (fun _ h c => ⟨(h c).1.trans (same m m' c (hm c)), (h c).2⟩) (Cert.ReferenceIdeal.Value.run m' g')⟩

/-- All the claims. -/
theorem claim : Cert.Claim := ⟨Cert.Kernel.Gen.facts, Cert.KernelIdeal.Gen.facts, Cert.ReferenceIdeal.Gen.facts,
  frame_p, frame_pi, frame_ri, trivial, algebra⟩

end Cert.Proof

end
